-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_sorted [hPre_batch_sorted : Cert.Pre_batch_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_batch_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_sorted [hPre_batch_sorted : Cert.Pre_batch_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_batch_sorted [hKernelIdeal : Cert.KernelIdeal.Facts] [hPre_batch_sorted : Cert.Pre_batch_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_batch_sorted [hReferenceIdeal : Cert.ReferenceIdeal.Facts] [hPre_batch_sorted : Cert.Pre_batch_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_batch_sorted [hKernelIdeal : Cert.KernelIdeal.Facts] [hReferenceIdeal : Cert.ReferenceIdeal.Facts] [hPre_batch_sorted : Cert.Pre_batch_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_batch_sorted : Cert.Pre_batch_sorted.Facts),
    quiescent_Kernel (hKernel := hKernel)
    ∧ quiescent_KernelIdeal (hKernelIdeal := hKernelIdeal)
    ∧ quiescent_KernelIdeal_pre_batch_sorted (hKernelIdeal := hKernelIdeal) (hPre_batch_sorted := hPre_batch_sorted)
    ∧ quiescent_ReferenceIdeal (hReferenceIdeal := hReferenceIdeal)
    ∧ quiescent_ReferenceIdeal_pre_batch_sorted (hReferenceIdeal := hReferenceIdeal) (hPre_batch_sorted := hPre_batch_sorted)
    ∧ preserves_Kernel_KernelIdeal
    ∧ algebraic_KernelIdeal_ReferenceIdeal_pre_batch_sorted (hKernelIdeal := hKernelIdeal) (hReferenceIdeal := hReferenceIdeal) (hPre_batch_sorted := hPre_batch_sorted)
-- ==== Pre_batch_sorted.lean ====
abbrev S50000x512 : Shape := ⟨2, ![50000, 512]⟩
abbrev S50000 : Shape := ⟨1, ![50000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S49999 : Shape := ⟨1, ![49999]⟩

class Facts : Prop where
  bcast_S_S1 : S_.BroadcastsInDim S1 (![] : Fin 0 → Fin S1.rank)
  slices_S50000_S49999_0 : S50000.Slices ![0] S49999
  concatenates_S1_S49999_S50000_d0 : Shape.Concatenates [S1, S49999] S50000 0

variable [Facts]

def fn {F : FTy → Type} [FloatOps F] (main_arg0 : FVec F S50000x512 .f32) (main_arg1 : IVec S50000 32) (main_arg2 : FVec F S512x256 .f32) (main_arg3 : FVec F S256 .f32) (main_arg4 : FVec F S256x1 .f32) (main_arg5 : FVec F S1 .f32) : IVec S50000 1 :=
  let main_c : IVec S_ 32 := constantI S_ 32 0#32
  let main_v0 : IVec S1 32 := broadcastInDim S1 ![] bcast_S_S1 main_c
  let main_v1 : IVec S49999 32 := (extractStridedSlice S49999 ![0] · slices_S50000_S49999_0) main_arg1
  let main_v2 : IVec S50000 32 := (fun a b => concatenate S50000 0 [⟨S1, a⟩, ⟨S49999, b⟩] concatenates_S1_S49999_S50000_d0) main_v0 main_v1
  let main_v3 : IVec S50000 1 := cmpi .sle main_v2 main_arg1
  main_v3
-- ==== Kernel.lean ====
abbrev S50000x512 : Shape := ⟨2, ![50000, 512]⟩
abbrev S50000 : Shape := ⟨1, ![50000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S64x512 : Shape := ⟨2, ![64, 512]⟩
abbrev S5000x512 : Shape := ⟨2, ![5000, 512]⟩
abbrev S64x1 : Shape := ⟨2, ![64, 1]⟩
abbrev S256x512 : Shape := ⟨2, ![256, 512]⟩
abbrev S2048 : Shape := ⟨1, ![2048]⟩
abbrev S1x2048 : Shape := ⟨2, ![1, 2048]⟩
abbrev S64x2048 : Shape := ⟨2, ![64, 2048]⟩
abbrev S64 : Shape := ⟨1, ![64]⟩
abbrev S848 : Shape := ⟨1, ![848]⟩
abbrev S1x848 : Shape := ⟨2, ![1, 848]⟩
abbrev S64x848 : Shape := ⟨2, ![64, 848]⟩
abbrev S64x64 : Shape := ⟨2, ![64, 64]⟩
abbrev S1x64 : Shape := ⟨2, ![1, 64]⟩
abbrev S256x256 : Shape := ⟨2, ![256, 256]⟩
abbrev S256x5000 : Shape := ⟨2, ![256, 5000]⟩
abbrev S1x5000 : Shape := ⟨2, ![1, 5000]⟩
abbrev S64x5000 : Shape := ⟨2, ![64, 5000]⟩

abbrev nBuf : Space → Nat
  | .hbm => 9
  | .vmem => 15
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S1x256, .f32⟩
  | .hbm, ⟨7, _⟩ => ⟨S1x1, .f32⟩
  | .hbm, ⟨8, _⟩ => ⟨S64x512, .f32⟩
  | .local _ .vmem, ⟨0, _⟩ => ⟨S5000x512, .f32⟩
  | .local _ .vmem, ⟨1, _⟩ => ⟨S5000x512, .f32⟩
  | .local _ .vmem, ⟨2, _⟩ => ⟨S50000, .i32⟩
  | .local _ .vmem, ⟨3, _⟩ => ⟨S512x256, .f32⟩
  | .local _ .vmem, ⟨4, _⟩ => ⟨S1x256, .f32⟩
  | .local _ .vmem, ⟨5, _⟩ => ⟨S256x1, .f32⟩
  | .local _ .vmem, ⟨6, _⟩ => ⟨S1x1, .f32⟩
  | .local _ .vmem, ⟨7, _⟩ => ⟨S64x512, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x1, .f32⟩
  | .local _ .vmem, ⟨12, _⟩ => ⟨S256x512, .f32⟩
  | .local _ .vmem, ⟨13, _⟩ => ⟨S256x1, .f32⟩
  | .local _ .vmem, ⟨14, _⟩ => ⟨S1x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S50000x512 : Shape := ⟨2, ![50000, 512]⟩
abbrev S50000 : Shape := ⟨1, ![50000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S50000x256 : Shape := ⟨2, ![50000, 256]⟩
abbrev S1x256 : Shape := ⟨2, ![1, 256]⟩
abbrev S50000x1 : Shape := ⟨2, ![50000, 1]⟩
abbrev S1x1 : Shape := ⟨2, ![1, 1]⟩
abbrev S_ : Shape := ⟨0, ![]⟩
abbrev S64x1 : Shape := ⟨2, ![64, 1]⟩
abbrev S64x512 : Shape := ⟨2, ![64, 512]⟩

abbrev nBuf : Space → Nat
  | .hbm => 53
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S50000x256, .f32⟩
  | .hbm, ⟨7, _⟩ => ⟨S1x256, .f32⟩
  | .hbm, ⟨8, _⟩ => ⟨S50000x256, .f32⟩
  | .hbm, ⟨9, _⟩ => ⟨S50000x256, .f32⟩
  | .hbm, ⟨10, _⟩ => ⟨S50000x256, .f32⟩
  | .hbm, ⟨11, _⟩ => ⟨S50000x1, .f32⟩
  | .hbm, ⟨12, _⟩ => ⟨S1x1, .f32⟩
  | .hbm, ⟨13, _⟩ => ⟨S50000x1, .f32⟩
  | .hbm, ⟨14, _⟩ => ⟨S50000x1, .f32⟩
  | .hbm, ⟨15, _⟩ => ⟨S_, .f32⟩
  | .hbm, ⟨16, _⟩ => ⟨S64x1, .f32⟩
  | .hbm, ⟨17, _⟩ => ⟨S50000x1, .i32⟩
  | .hbm, ⟨18, _⟩ => ⟨S64x1, .f32⟩
  | .hbm, ⟨19, _⟩ => ⟨S_, .i32⟩
  | .hbm, ⟨20, _⟩ => ⟨S50000, .i32⟩
  | .hbm, ⟨21, _⟩ => ⟨S50000, .i1⟩
  | .hbm, ⟨22, _⟩ => ⟨S_, .i32⟩
  | .hbm, ⟨23, _⟩ => ⟨S50000, .i32⟩
  | .hbm, ⟨24, _⟩ => ⟨S50000, .i32⟩
  | .hbm, ⟨25, _⟩ => ⟨S50000, .i32⟩
  | .hbm, ⟨26, _⟩ => ⟨S50000x1, .i32⟩
  | .hbm, ⟨27, _⟩ => ⟨S50000x1, .f32⟩
  | .hbm, ⟨28, _⟩ => ⟨S50000x1, .f32⟩
  | .hbm, ⟨29, _⟩ => ⟨S50000x1, .f32⟩
  | .hbm, ⟨30, _⟩ => ⟨S_, .f32⟩
  | .hbm, ⟨31, _⟩ => ⟨S64x1, .f32⟩
  | .hbm, ⟨32, _⟩ => ⟨S50000x1, .i32⟩
  | .hbm, ⟨33, _⟩ => ⟨S64x1, .f32⟩
  | .hbm, ⟨34, _⟩ => ⟨S_, .i32⟩
  | .hbm, ⟨35, _⟩ => ⟨S50000, .i32⟩
  | .hbm, ⟨36, _⟩ => ⟨S50000, .i1⟩
  | .hbm, ⟨37, _⟩ => ⟨S_, .i32⟩
  | .hbm, ⟨38, _⟩ => ⟨S50000, .i32⟩
  | .hbm, ⟨39, _⟩ => ⟨S50000, .i32⟩
  | .hbm, ⟨40, _⟩ => ⟨S50000, .i32⟩
  | .hbm, ⟨41, _⟩ => ⟨S50000x1, .i32⟩
  | .hbm, ⟨42, _⟩ => ⟨S50000x1, .f32⟩
  | .hbm, ⟨43, _⟩ => ⟨S_, .f32⟩
  | .hbm, ⟨44, _⟩ => ⟨S50000x1, .f32⟩
  | .hbm, ⟨45, _⟩ => ⟨S50000x1, .f32⟩
  | .hbm, ⟨46, _⟩ => ⟨S50000x1, .f32⟩
  | .hbm, ⟨47, _⟩ => ⟨S50000x512, .f32⟩
  | .hbm, ⟨48, _⟩ => ⟨S50000x512, .f32⟩
  | .hbm, ⟨49, _⟩ => ⟨S_, .f32⟩
  | .hbm, ⟨50, _⟩ => ⟨S64x512, .f32⟩
  | .hbm, ⟨51, _⟩ => ⟨S50000x1, .i32⟩
  | .hbm, ⟨52, _⟩ => ⟨S64x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.Opened.lean ====
/-
  What one grid point leaves in the accumulator and in the seven scratch arrays, as the body's own named values.
-/
module

public import proofs.«01_k».proof.Proof.Gen.KernelIdeal.Value
public import Idealize.ShloMosaic.Lib.Pipeline.ValueKit.Acc
public import Idealize.ShloMosaic.Lib.Pipeline.ReadBack

@[expose] public section

set_option maxRecDepth 16384

noncomputable section

namespace Cert.Pool

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The output block and the seven scratch arrays, in the order the launch carries them: the pooled rows, the sums of the
    weights, the sums of the scores, where each segment starts, where it ends, the first weight transposed, the first bias as
    a column, the second weight as a row. -/
abbrev State (F : FTy → Type) : Type :=
  Vec F S64x512 .f32 × Vec F S64x1 .f32 × Vec F S64x1 .f32 × Vec F S64x1 .f32 × Vec F S64x1 .f32
    × Vec F S256x512 .f32 × Vec F S256x1 .f32 × Vec F S1x256 .f32

/-- One grid point's accumulation: the three sums over the rows of the block `x0` added, everything else kept. -/
def step (i : grid0.Coords) (x0 : Vec F S5000x512 .f32) (x5 : Vec F S1x1 .f32) (P : State F) : State F :=
  (k0_pay1 x0 (k0_pay30 i x0 P.2.2.2.2.2.1 P.2.2.2.2.2.2.1 P.2.2.2.2.2.2.2 x5 P.2.2.2.1 P.2.2.2.2.1) P.1,
   k0_pay3 (k0_pay28 x0 P.2.2.2.2.2.1 P.2.2.2.2.2.2.1 P.2.2.2.2.2.2.2 x5) (k0_pay29 i P.2.2.2.1 P.2.2.2.2.1) P.2.1,
   k0_pay2 (k0_pay27 x0 P.2.2.2.2.2.1 P.2.2.2.2.2.2.1 P.2.2.2.2.2.2.2 x5) (k0_pay29 i P.2.2.2.1 P.2.2.2.2.1) P.2.2.1,
   P.2.2.2)

/-- A point that is neither the first nor the last accumulates over what the point before it left. -/
theorem outs_B (c : Dev nD) (t : Fin cfg0.N) (h0 : ¬t.val % 10 = 0) (h1 : ¬t.val % 10 = 9) :
    outsAt0 m c t.val t.isLt
      = step (grid0.coords t) (iblk m c 0 t) (iblk m c 5 t) (outsAt0 m c (t.val - 1) (Nat.lt_of_le_of_lt (Nat.sub_le _ _) t.isLt)) := by
  rw [outsAt0_B m c t h0 h1]
  generalize outsAt0 m c (t.val - 1) (Nat.lt_of_le_of_lt (Nat.sub_le _ _) t.isLt) = P
  refine Prod.ext ?_ (Prod.ext ?_ (Prod.ext ?_ ?_))
  · dsimp only [step]
    frame_out
    simp only [read_unread_whole]
  · dsimp only [step]
    frame_out
    simp only [read_unread_whole]
  · dsimp only [step]
    frame_out
    simp only [read_unread_whole]
  · rfl

/-- The last point accumulates and then divides. -/
theorem outs_C (c : Dev nD) (t : Fin cfg0.N) (h0 : ¬t.val % 10 = 0) (h1 : t.val % 10 = 9) (P Q : State F)
    (hP : P = outsAt0 m c (t.val - 1) (Nat.lt_of_le_of_lt (Nat.sub_le _ _) t.isLt))
    (hQ : Q = step (grid0.coords t) (iblk m c 0 t) (iblk m c 5 t) P) :
    (outsAt0 m c t.val t.isLt).1 = k0_pay4 Q.2.2.1 Q.1 Q.2.1 := by
  rw [outsAt0_C m c t h0 h1, ← hP, hQ]
  dsimp only [step]
  frame_out
  simp only [read_unread_whole]

/-- The first 22 chunks of the segment numbers `x1` counted, as the body names the partial count. -/
def most (x1 : Vec F S50000 .i32) : FVec F S64x1 .f32 :=
  (k0_pay16 (iota Kind.tc S64x1 32 [0] iota_S64x1_d0_w32) (k0_pay14 (iota Kind.tc S64x1 32 [0] iota_S64x1_d0_w32) (k0_pay12 (iota Kind.tc S64x1 32 [0] iota_S64x1_d0_w32) (k0_pay10 (iota Kind.tc S64x1 32 [0] iota_S64x1_d0_w32) (k0_pay8 (View.ld x1 (Rect.unit ![0] ![2048] inb_S50000_S2048_0)) (View.ld x1 (Rect.unit ![2048] ![2048] inb_S50000_S2048_2048)))
      (k0_pay9 (View.ld x1 (Rect.unit ![4096] ![2048] inb_S50000_S2048_4096)))
      (View.ld x1 (Rect.unit ![6144] ![2048] inb_S50000_S2048_6144)) (View.ld x1 (Rect.unit ![8192] ![2048] inb_S50000_S2048_8192)) (View.ld x1 (Rect.unit ![10240] ![2048] inb_S50000_S2048_10240)) (View.ld x1 (Rect.unit ![12288] ![2048] inb_S50000_S2048_12288)))
      (k0_pay11 (iota Kind.tc S64x1 32 [0] iota_S64x1_d0_w32) (View.ld x1 (Rect.unit ![14336] ![2048] inb_S50000_S2048_14336)))
      (View.ld x1 (Rect.unit ![16384] ![2048] inb_S50000_S2048_16384)) (View.ld x1 (Rect.unit ![18432] ![2048] inb_S50000_S2048_18432)) (View.ld x1 (Rect.unit ![20480] ![2048] inb_S50000_S2048_20480)) (View.ld x1 (Rect.unit ![22528] ![2048] inb_S50000_S2048_22528)))
      (k0_pay13 (iota Kind.tc S64x1 32 [0] iota_S64x1_d0_w32) (View.ld x1 (Rect.unit ![24576] ![2048] inb_S50000_S2048_24576)))
      (View.ld x1 (Rect.unit ![26624] ![2048] inb_S50000_S2048_26624)) (View.ld x1 (Rect.unit ![28672] ![2048] inb_S50000_S2048_28672)) (View.ld x1 (Rect.unit ![30720] ![2048] inb_S50000_S2048_30720)) (View.ld x1 (Rect.unit ![32768] ![2048] inb_S50000_S2048_32768)))
      (k0_pay15 (iota Kind.tc S64x1 32 [0] iota_S64x1_d0_w32) (View.ld x1 (Rect.unit ![34816] ![2048] inb_S50000_S2048_34816)))
      (View.ld x1 (Rect.unit ![36864] ![2048] inb_S50000_S2048_36864)) (View.ld x1 (Rect.unit ![38912] ![2048] inb_S50000_S2048_38912)) (View.ld x1 (Rect.unit ![40960] ![2048] inb_S50000_S2048_40960)) (View.ld x1 (Rect.unit ![43008] ![2048] inb_S50000_S2048_43008)))

/-- The count of the 23rd chunk alone. -/
def late (x1 : Vec F S50000 .i32) : FVec F S64x1 .f32 :=
  k0_pay17 (iota Kind.tc S64x1 32 [0] iota_S64x1_d0_w32) (View.ld x1 (Rect.unit ![45056] ![2048] inb_S50000_S2048_45056))

/-- Where each segment starts: the body's value over the whole array of segment numbers. -/
def starts (x1 : Vec F S50000 .i32) : FVec F S64x1 .f32 :=
  k0_pay20 (iota Kind.tc S64x1 32 [0] iota_S64x1_d0_w32) (most x1) (late x1) (View.ld x1 (Rect.unit ![47104] ![2048] inb_S50000_S2048_47104))
    (View.ld x1 (Rect.unit ![49152] ![848] inb_S50000_S848_49152))

/-- Where each segment ends. -/
def ends (x1 : Vec F S50000 .i32) : FVec F S64x1 .f32 :=
  k0_pay22 (k0_pay21 (iota Kind.tc S64x1 32 [0] iota_S64x1_d0_w32) (most x1) (late x1) (View.ld x1 (Rect.unit ![47104] ![2048] inb_S50000_S2048_47104))
    (View.ld x1 (Rect.unit ![49152] ![848] inb_S50000_S848_49152)))

/-- What the first point puts in place before it accumulates. -/
def init (x1 : Vec F S50000 .i32) (x2 : Vec F S512x256 .f32) (x3 : Vec F S1x256 .f32) (x4 : Vec F S256x1 .f32) : State F :=
  (k0_pay5, k0_pay6, k0_pay7, starts x1, ends x1, k0_pay23 x2, k0_pay25 x3, k0_pay26 x4)

/-- The first point initialises and then accumulates. -/
theorem outs_A (c : Dev nD) (t : Fin cfg0.N) (h0 : t.val % 10 = 0) (h1 : ¬t.val % 10 = 9) :
    outsAt0 m c t.val t.isLt
      = step (grid0.coords t) (iblk m c 0 t) (iblk m c 5 t) (init (iblk m c 1 t) (iblk m c 2 t) (iblk m c 3 t) (iblk m c 4 t)) := by
  rw [outsAt0_A m c t h0 h1]
  generalize iblk m c 0 t = x0
  generalize iblk m c 1 t = x1
  generalize iblk m c 2 t = x2
  generalize iblk m c 3 t = x3
  generalize iblk m c 4 t = x4
  generalize iblk m c 5 t = x5
  refine Prod.ext ?_ (Prod.ext ?_ (Prod.ext ?_ (Prod.ext ?_ (Prod.ext ?_ (Prod.ext ?_ (Prod.ext ?_ ?_))))))
  all_goals
    dsimp only [step, init]
    frame_out
    try rfl

end Cert.Pool

end
-- ==== Proof.Count.lean ====
/-
  Counting in a list that never goes down: the positions of a value are the positions from the number of smaller entries
  up to the number of entries that are not larger.
-/
module

public import Idealize.ShloMosaic.PureOps.Ideal

@[expose] public section

namespace Cert.Pool

variable {n : ℕ} (k : Fin n → ℤ)

/-- How many entries are below `c`. -/
def below (c : ℤ) : ℕ := (Finset.univ.filter fun i => k i < c).card

/-- How many entries are `g`. -/
def count (g : ℤ) : ℕ := (Finset.univ.filter fun i => k i = g).card

/-- Position `r` is at or after the entries below `c` exactly when its own entry is not below `c`. -/
theorem below_le_iff (hk : Monotone k) (c : ℤ) (r : Fin n) : below k c ≤ r.val ↔ c ≤ k r := by
  constructor
  · intro h
    by_contra hlt
    have hsub : Finset.Iic r ⊆ Finset.univ.filter fun i => k i < c := fun i hi =>
      Finset.mem_filter.2 ⟨Finset.mem_univ _, lt_of_le_of_lt (hk (Finset.mem_Iic.1 hi)) (not_le.1 hlt)⟩
    have := Finset.card_le_card hsub
    rw [Fin.card_Iic] at this
    unfold below at h
    omega
  · intro h
    have hsub : (Finset.univ.filter fun i => k i < c) ⊆ Finset.Iio r := fun i hi => by
      refine Finset.mem_Iio.2 (lt_of_not_ge fun hri => ?_)
      exact absurd (lt_of_le_of_lt (le_trans h (hk hri)) (Finset.mem_filter.1 hi).2) (lt_irrefl _)
    have := Finset.card_le_card hsub
    rwa [Fin.card_Iio] at this

/-- Position `r` lies between the two counts of `g` exactly when its entry is `g`. -/
theorem between_iff (hk : Monotone k) (g : ℤ) (r : Fin n) : (below k g ≤ r.val ∧ r.val < below k (g + 1)) ↔ k r = g := by
  have h1 := below_le_iff k hk g r
  have h2 := below_le_iff k hk (g + 1) r
  omega

/-- The entries below `c`, counted value by value, for entries that are not negative. -/
theorem below_eq_sum (h0 : ∀ i, 0 ≤ k i) {G : ℕ} (c : ℕ) (hc : c ≤ G) :
    below k c = ∑ j : Fin G, if j.val < c then count k j.val else 0 := by
  have hcount : ∀ g : ℤ, count k g = ∑ i : Fin n, if k i = g then 1 else 0 := fun g => by
    unfold count; rw [Finset.card_filter]
  have hbelow : below k c = ∑ i : Fin n, if k i < c then 1 else 0 := by
    unfold below; rw [Finset.card_filter]
  rw [hbelow]
  have hpush : ∀ j : Fin G, (if j.val < c then count k j.val else 0) = ∑ i : Fin n, if j.val < c ∧ k i = j.val then 1 else 0 := by
    intro j
    by_cases hj : j.val < c
    · rw [if_pos hj, hcount]; simp only [hj, true_and]
    · rw [if_neg hj]; simp only [hj, false_and, if_false, Finset.sum_const_zero]
  rw [Finset.sum_congr rfl fun j _ => hpush j, Finset.sum_comm]
  refine Finset.sum_congr rfl fun i _ => ?_
  have hi := h0 i
  by_cases hlt : k i < c
  · rw [if_pos hlt]
    have hG : (k i).toNat < G := by omega
    rw [Finset.sum_eq_single (⟨(k i).toNat, hG⟩ : Fin G)]
    · rw [if_pos]
      constructor
      · show (k i).toNat < c; omega
      · show k i = ((k i).toNat : ℤ); omega
    · intro j _ hj
      refine if_neg fun h => hj (Fin.ext ?_)
      show j.val = (k i).toNat
      omega
    · intro h; exact absurd (Finset.mem_univ _) h
  · rw [if_neg hlt]
    refine (Finset.sum_eq_zero fun j _ => if_neg fun h => hlt ?_).symm
    omega

/-- How many of the first `o` entries are `g`. -/
def upto (g : ℤ) (o : ℕ) : ℕ := (Finset.univ.filter fun r : Fin n => r.val < o ∧ k r = g).card

/-- Counting one more entry. -/
theorem upto_succ (g : ℤ) (o : ℕ) (ho : o < n) : upto k g (o + 1) = upto k g o + if k ⟨o, ho⟩ = g then 1 else 0 := by
  unfold upto
  by_cases h : k ⟨o, ho⟩ = g
  · rw [if_pos h, ← Finset.card_insert_of_notMem (a := (⟨o, ho⟩ : Fin n))]
    · refine congrArg Finset.card (Finset.ext fun r => ?_)
      simp only [Finset.mem_filter, Finset.mem_univ, true_and, Finset.mem_insert]
      constructor
      · rintro ⟨h1, h2⟩
        by_cases hr : r.val = o
        · exact Or.inl (Fin.ext hr)
        · exact Or.inr ⟨by omega, h2⟩
      · rintro (h1 | ⟨h1, h2⟩)
        · subst h1; exact ⟨Nat.lt_succ_self o, h⟩
        · exact ⟨by omega, h2⟩
    · simp
  · rw [if_neg h]
    refine Eq.trans ?_ (Nat.add_zero _).symm
    refine congrArg Finset.card (Finset.ext fun r => ?_)
    simp only [Finset.mem_filter, Finset.mem_univ, true_and]
    constructor
    · rintro ⟨h1, h2⟩
      refine ⟨?_, h2⟩
      by_contra hr
      have e : r = ⟨o, ho⟩ := Fin.ext (by show r.val = o; omega)
      exact h (e ▸ h2)
    · rintro ⟨h1, h2⟩
      exact ⟨by omega, h2⟩

/-- Nothing is counted before the first entry. -/
theorem upto_zero (g : ℤ) : upto k g 0 = 0 := by
  unfold upto
  rw [Finset.card_eq_zero, Finset.filter_eq_empty_iff]
  rintro r - ⟨h, -⟩
  exact absurd h (Nat.not_lt_zero _)

/-- All of them counted. -/
theorem upto_all (g : ℤ) : upto k g n = count k g := by
  unfold upto count
  refine congrArg Finset.card (Finset.ext fun r => ?_)
  simp only [Finset.mem_filter, Finset.mem_univ, true_and, r.isLt]

section
variable {M : Type} [AddCommMonoid M] (f : Fin n → M)

/-- The sum of `f` over the positions before `o` whose entry is `g`. -/
def partSum (g : ℤ) (o : ℕ) : M := ∑ r : Fin n, if r.val < o ∧ k r = g then f r else 0

theorem partSum_zero (g : ℤ) : partSum k f g 0 = 0 :=
  Finset.sum_eq_zero fun r _ => if_neg fun h => absurd h.1 (Nat.not_lt_zero _)

/-- All the positions. -/
theorem partSum_all (g : ℤ) : partSum k f g n = ∑ r ∈ Finset.univ.filter (fun r => k r = g), f r := by
  rw [Finset.sum_filter]
  exact Finset.sum_congr rfl fun r _ => if_congr ⟨fun h => h.2, fun h => ⟨r.isLt, h⟩⟩ rfl rfl

/-- One more position. -/
theorem partSum_succ (g : ℤ) (o : ℕ) (ho : o < n) :
    partSum k f g (o + 1) = partSum k f g o + if k ⟨o, ho⟩ = g then f ⟨o, ho⟩ else 0 := by
  have e : (if k ⟨o, ho⟩ = g then f ⟨o, ho⟩ else 0) = ∑ r : Fin n, if (⟨o, ho⟩ : Fin n) = r then (if k r = g then f r else 0) else 0 := by
    rw [Finset.sum_ite_eq, if_pos (Finset.mem_univ _)]
  rw [e]
  unfold partSum
  rw [← Finset.sum_add_distrib]
  refine Finset.sum_congr rfl fun r _ => ?_
  rcases lt_trichotomy r.val o with h | h | h
  · have hne : (⟨o, ho⟩ : Fin n) ≠ r := fun h' => by subst h'; exact absurd h (lt_irrefl _)
    rw [if_neg hne, add_zero]
    exact if_congr ⟨fun x => ⟨h, x.2⟩, fun x => ⟨by omega, x.2⟩⟩ rfl rfl
  · have heq : (⟨o, ho⟩ : Fin n) = r := Fin.ext h.symm
    rw [if_pos heq, if_neg (show ¬(r.val < o ∧ k r = g) by omega), zero_add]
    exact if_congr ⟨fun x => x.2, fun x => ⟨by omega, x⟩⟩ rfl rfl
  · have hne : (⟨o, ho⟩ : Fin n) ≠ r := fun h' => by subst h'; exact absurd h (lt_irrefl _)
    rw [if_neg hne, add_zero, if_neg (show ¬(r.val < o + 1 ∧ k r = g) by omega), if_neg (show ¬(r.val < o ∧ k r = g) by omega)]

/-- A block of positions more. -/
theorem partSum_add (g : ℤ) (o : ℕ) : ∀ (w : ℕ) (h : o + w ≤ n),
    partSum k f g (o + w) = partSum k f g o + ∑ l : Fin w, if k ⟨o + l.val, by have := l.isLt; omega⟩ = g then f ⟨o + l.val, by have := l.isLt; omega⟩ else 0 := by
  intro w
  induction w with
  | zero => intro _; rw [Finset.univ_eq_empty, Finset.sum_empty]; exact (add_zero (partSum k f g o)).symm
  | succ w ih =>
    intro h
    rw [Fin.sum_univ_castSucc]
    refine (partSum_succ k f g (o + w) (by omega)).trans ?_
    rw [ih (by omega), add_assoc]
    rfl

end

end Cert.Pool
-- ==== Proof.Softmax.lean ====
/-
  The identity between the two ways of weighting: the exponentials shifted by the sum of the scores before they are summed
  and divided, or the plain exponentials summed, shifted and divided once at the end. Over the extended reals, for every
  score and every summand, infinite ones included.
-/
module

public import Idealize.ShloMosaic.PureOps.Ideal

@[expose] public section

noncomputable section

namespace Cert.Pool

open Idealize.ShloMosaic

variable {ι : Type} (I : Finset ι)

/-- A nonnegative real factor goes through a finite sum of extended reals. -/
theorem mul_sum_real {c : ℝ} (hc : 0 ≤ c) (f : ι → EReal) : (c : EReal) * ∑ i ∈ I, f i = ∑ i ∈ I, (c : EReal) * f i := by
  classical
  induction I using Finset.induction_on with
  | empty => simp
  | insert a s ha ih =>
    rw [Finset.sum_insert ha, Finset.sum_insert ha,
      EReal.left_distrib_of_nonneg_of_ne_top (EReal.coe_nonneg.2 hc) (EReal.coe_ne_top c), ih]

/-- A finite sum of reals, taken among the extended reals. -/
theorem coe_sum (f : ι → ℝ) : ((∑ i ∈ I, f i : ℝ) : EReal) = ∑ i ∈ I, (f i : EReal) := by
  classical
  induction I using Finset.induction_on with
  | empty => simp
  | insert a s ha ih => rw [Finset.sum_insert ha, Finset.sum_insert ha, EReal.coe_add, ih]

/-- If a finite sum of extended reals is real, so is each summand. -/
theorem real_of_sum_real (f : ι → EReal) (h₁ : ∑ i ∈ I, f i ≠ ⊥) (h₂ : ∑ i ∈ I, f i ≠ ⊤) :
    ∀ i ∈ I, f i ≠ ⊥ ∧ f i ≠ ⊤ := by
  classical
  induction I using Finset.induction_on with
  | empty => intro i hi; simp at hi
  | insert a s ha ih =>
    rw [Finset.sum_insert ha] at h₁ h₂
    have hb := EReal.add_ne_bot_iff.1 h₁
    have ht := (EReal.add_ne_top_iff_ne_top₂ hb.1 hb.2).1 h₂
    intro i hi
    rcases Finset.mem_insert.1 hi with rfl | hi
    · exact ⟨hb.1, ht.1⟩
    · exact ih hb.2 ht.2 i hi

/-- A sum with an infinite summand, all of them nonnegative, is infinite. -/
theorem sum_eq_top (f : ι → EReal) (h0 : ∀ i ∈ I, 0 ≤ f i) (a : ι) (ha : a ∈ I) (hf : f a = ⊤) : ∑ i ∈ I, f i = ⊤ := by
  classical
  rw [← Finset.add_sum_erase I f ha, hf]
  refine EReal.top_add_of_ne_bot (ne_of_gt (lt_of_lt_of_le EReal.bot_lt_zero ?_))
  exact Finset.sum_nonneg fun i hi => h0 i (Finset.mem_of_mem_erase hi)

theorem exp_real (r : ℝ) : Ideal.exp (r : EReal) = (Real.exp r : EReal) := rfl
theorem exp_top : Ideal.exp ⊤ = ⊤ := rfl
theorem exp_bot : Ideal.exp ⊥ = 0 := rfl

/-- An exponential is nonnegative. -/
theorem exp_nonneg (x : EReal) : 0 ≤ Ideal.exp x := by
  induction x with
  | bot => exact le_of_eq exp_bot.symm
  | top => rw [exp_top]; exact le_top
  | coe r => rw [exp_real]; exact EReal.coe_nonneg.2 (Real.exp_pos r).le

/-- An exponential is zero only at minus infinity. -/
theorem exp_eq_zero {x : EReal} (h : Ideal.exp x = 0) : x = ⊥ := by
  induction x with
  | bot => rfl
  | top => rw [exp_top] at h; exact absurd h EReal.top_ne_zero
  | coe r => rw [exp_real] at h; exact absurd (EReal.coe_eq_zero.1 h) (Real.exp_pos r).ne'

/-- Dividing zero by something that is not zero. -/
theorem zero_div {y : EReal} (h : y ≠ 0) : Ideal.div 0 y = 0 := by unfold Ideal.div; rw [if_neg h, zero_mul]

/-- Dividing by infinity. -/
theorem div_top (x : EReal) : Ideal.div x ⊤ = 0 := by
  unfold Ideal.div; rw [if_neg EReal.top_ne_zero, EReal.inv_top, mul_zero]

/-- Dividing by a positive real. -/
theorem div_real (x : EReal) {D : ℝ} (hD : 0 < D) : Ideal.div x (D : EReal) = ((D⁻¹ : ℝ) : EReal) * x := by
  unfold Ideal.div
  rw [if_neg (fun h => hD.ne' (EReal.coe_eq_zero.1 h)), EReal.coe_inv, mul_comm]

/-- POOLING EITHER WAY: the weighted sum with the exponentials `exp sᵢ`, multiplied by `exp (-S)` with `S` the sum of the
    scores and divided by their sum so multiplied plus a positive real, is the sum of each `xᵢ` times its own weight
    `exp (sᵢ - S)` divided by the sum of those weights plus that real. -/
theorem pool_eq (s x : ι → EReal) {ε : ℝ} (hε : 0 < ε) :
    Ideal.div (Ideal.exp (0 - ∑ i ∈ I, s i) * ∑ i ∈ I, Ideal.exp (s i) * x i)
        (Ideal.exp (0 - ∑ i ∈ I, s i) * (∑ i ∈ I, Ideal.exp (s i)) + (ε : EReal))
      = ∑ i ∈ I, x i * Ideal.div (Ideal.exp (s i - ∑ j ∈ I, s j)) ((∑ j ∈ I, Ideal.exp (s j - ∑ l ∈ I, s l)) + (ε : EReal)) := by
  have hε0 : (ε : EReal) ≠ 0 := fun h => hε.ne' (EReal.coe_eq_zero.1 h)
  have hεb : (ε : EReal) ≠ ⊥ := EReal.coe_ne_bot ε
  have hreal := real_of_sum_real I s
  generalize hS : ∑ i ∈ I, s i = S at hreal ⊢
  induction S with
  | top =>
    have e1 : ∀ i, Ideal.exp (s i - ⊤) = 0 := fun i => by rw [EReal.sub_top, exp_bot]
    have e2 : Ideal.exp (0 - ⊤) = 0 := by rw [EReal.sub_top, exp_bot]
    simp only [e1, e2, zero_mul, Finset.sum_const_zero, zero_add, zero_div hε0, mul_zero]
  | bot =>
    have e2 : Ideal.exp (0 - ⊥) = ⊤ := by rw [show (0 : EReal) - ⊥ = ⊤ by simp [sub_eq_add_neg], exp_top]
    have e1 : ∀ y : EReal, y ≠ ⊥ → Ideal.exp (y - ⊥) = ⊤ := fun y hy => by
      rw [sub_eq_add_neg, EReal.neg_bot, add_comm, EReal.top_add_of_ne_bot hy, exp_top]
    have e0 : Ideal.exp ((⊥ : EReal) - ⊥) = 0 := by rw [sub_eq_add_neg, EReal.bot_add, exp_bot]
    rw [e2]
    by_cases hall : ∀ i ∈ I, s i = ⊥
    · have z1 : ∑ i ∈ I, Ideal.exp (s i) * x i = 0 :=
        Finset.sum_eq_zero fun i hi => by rw [hall i hi, exp_bot, zero_mul]
      have z2 : ∑ i ∈ I, Ideal.exp (s i) = 0 := Finset.sum_eq_zero fun i hi => by rw [hall i hi, exp_bot]
      have z3 : ∑ i ∈ I, Ideal.exp (s i - ⊥) = 0 := Finset.sum_eq_zero fun i hi => by rw [hall i hi, e0]
      rw [z1, z2, z3, mul_zero, zero_add, zero_div hε0]
      exact (Finset.sum_eq_zero fun i hi => by rw [hall i hi, e0, zero_div hε0, mul_zero]).symm
    · obtain ⟨a, ha, hne⟩ : ∃ a, a ∈ I ∧ s a ≠ ⊥ := by
        by_contra hcon
        exact hall fun i hi => by_contra fun hi' => hcon ⟨i, hi, hi'⟩
      have hpos : 0 < ∑ i ∈ I, Ideal.exp (s i) :=
        lt_of_lt_of_le (lt_of_le_of_ne (exp_nonneg _) fun h => hne (exp_eq_zero h.symm))
          (Finset.single_le_sum (f := fun i => Ideal.exp (s i)) (fun i _ => exp_nonneg (s i)) ha)
      have hA : ∑ i ∈ I, Ideal.exp (s i - ⊥) = ⊤ :=
        sum_eq_top I _ (fun i _ => exp_nonneg _) a ha (e1 _ hne)
      rw [EReal.top_mul_of_pos hpos, hA, EReal.top_add_of_ne_bot hεb, div_top]
      exact (Finset.sum_eq_zero fun i _ => by rw [div_top, mul_zero]).symm
  | coe r =>
    have hr := hreal (EReal.coe_ne_bot r) (EReal.coe_ne_top r)
    have hs : ∀ i ∈ I, s i = ((s i).toReal : EReal) := fun i hi => (EReal.coe_toReal (hr i hi).2 (hr i hi).1).symm
    have em : Ideal.exp (0 - (r : EReal)) = (Real.exp (-r) : EReal) := by
      rw [← EReal.coe_zero, ← EReal.coe_sub, exp_real, zero_sub]
    have e1 : ∀ i ∈ I, Ideal.exp (s i) = (Real.exp (s i).toReal : EReal) := fun i hi => by
      conv_lhs => rw [hs i hi]
      exact exp_real _
    have e2 : ∀ i ∈ I, Ideal.exp (s i - (r : EReal)) = ((Real.exp (-r) * Real.exp (s i).toReal : ℝ) : EReal) := fun i hi => by
      conv_lhs => rw [hs i hi]
      rw [← EReal.coe_sub, exp_real, sub_eq_add_neg, Real.exp_add, mul_comm]
    have hem := (Real.exp_pos (-r)).le
    have E1 : ∑ i ∈ I, Ideal.exp (s i) = ((∑ i ∈ I, Real.exp (s i).toReal : ℝ) : EReal) := by
      rw [coe_sum]; exact Finset.sum_congr rfl e1
    have E2 : ∑ i ∈ I, Ideal.exp (s i - (r : EReal)) = ((Real.exp (-r) * ∑ i ∈ I, Real.exp (s i).toReal : ℝ) : EReal) := by
      rw [Finset.mul_sum, coe_sum]; exact Finset.sum_congr rfl e2
    have hD : 0 < Real.exp (-r) * (∑ i ∈ I, Real.exp (s i).toReal) + ε :=
      add_pos_of_nonneg_of_pos (mul_nonneg hem (Finset.sum_nonneg fun i _ => (Real.exp_pos _).le)) hε
    rw [em, E1, E2, ← EReal.coe_mul, ← EReal.coe_add, div_real _ hD, mul_sum_real I hem, mul_sum_real I (inv_pos.2 hD).le]
    refine Finset.sum_congr rfl fun i hi => ?_
    rw [e1 i hi, e2 i hi, div_real _ hD, EReal.coe_mul, mul_comm (x i)]
    simp only [mul_assoc]

end Cert.Pool

end
-- ==== Proof.Segments.lean ====
/-
  The launch's start and end of each segment: 25 chunks of the segment numbers counted, then the counts added up.
-/
module

public import proofs.«01_k».proof.Proof.Opened
public import proofs.«01_k».proof.Proof.Count
public import proofs.«01_k».proof.Proof.Softmax
public import Idealize.ShloMosaic.Lib.Pointwise
public import Idealize.ShloMosaic.Lib.StableHlo.Predicate

@[expose] public section

set_option maxRecDepth 16384

noncomputable section

namespace Cert.Pool

open Cert.KernelIdeal Cert.KernelIdeal.Gen Idealize.ShloMosaic Idealize.ShloMosaic.TcCoe Idealize.SL.Sem

/-- A truth value widened to a word and made a float is one or zero. -/
theorem mask_bool (p : Bool) : FloatOps.sitofp (F := Ideal) FTy.f32 (BitVec.setWidth 32 (BitVec.ofBool p)) = (if p then 1 else 0 : EReal) := by
  show (((BitVec.setWidth 32 (BitVec.ofBool p)).toInt : ℝ) : EReal) = _
  cases p <;> simp

/-- A small natural as a signed word. -/
theorem toInt_small {a : ℕ} (ha : a < 2 ^ 31) : (BitVec.ofNat 32 a).toInt = (a : ℤ) :=
  StableHlo.Predicate.toInt_ofNat_small a ha

/-- The mask of an equality of words. -/
theorem mask_eq (u v : BitVec 32) :
    FloatOps.sitofp (F := Ideal) FTy.f32 (BitVec.setWidth 32 (IntOp.cmpi .eq u v)) = (if u = v then 1 else 0 : EReal) := by
  refine (mask_bool (u == v)).trans (if_congr ?_ rfl rfl)
  exact beq_iff_eq

/-- The mask of an equality of small naturals. -/
theorem mask_eq_nat {a b : ℕ} (ha : a < 2 ^ 31) (hb : b < 2 ^ 31) :
    FloatOps.sitofp (F := Ideal) FTy.f32 (BitVec.setWidth 32 (IntOp.cmpi .eq (BitVec.ofNat 32 a) (BitVec.ofNat 32 b)))
      = (if a = b then 1 else 0 : EReal) := by
  refine (mask_eq _ _).trans (if_congr ⟨fun h => ?_, fun h => by rw [h]⟩ rfl rfl)
  have := congrArg BitVec.toInt h
  rw [toInt_small ha, toInt_small hb] at this
  exact Int.ofNat.inj this

/-- The mask of a strict comparison of small naturals. -/
theorem mask_lt_nat {a b : ℕ} (ha : a < 2 ^ 31) (hb : b < 2 ^ 31) :
    FloatOps.sitofp (F := Ideal) FTy.f32 (BitVec.setWidth 32 (IntOp.cmpi .slt (BitVec.ofNat 32 a) (BitVec.ofNat 32 b)))
      = (if a < b then 1 else 0 : EReal) := by
  refine (mask_bool ((BitVec.ofNat 32 a).slt (BitVec.ofNat 32 b))).trans (if_congr ?_ rfl rfl)
  rw [BitVec.slt_iff_toInt_lt, toInt_small ha, toInt_small hb]
  exact Int.ofNat_lt

/-- The mask of a comparison of small naturals. -/
theorem mask_le_nat {a b : ℕ} (ha : a < 2 ^ 31) (hb : b < 2 ^ 31) :
    FloatOps.sitofp (F := Ideal) FTy.f32 (BitVec.setWidth 32 (IntOp.cmpi .sle (BitVec.ofNat 32 a) (BitVec.ofNat 32 b)))
      = (if a ≤ b then 1 else 0 : EReal) := by
  refine (mask_bool ((BitVec.ofNat 32 a).sle (BitVec.ofNat 32 b))).trans (if_congr ?_ rfl rfl)
  rw [BitVec.sle_iff_toInt_le, toInt_small ha, toInt_small hb]
  exact Int.ofNat_le

/-- The segment numbers read as signed integers. -/
def key (b : IVec S50000 32) : Fin 50000 → ℤ := fun r => (b (ix1 r)).toInt

/-- How many of a chunk's numbers are `g`. -/
def hits {n : ℕ} (g : Fin 64) (v : IVec (⟨1, ![n]⟩ : Shape) 32) : EReal :=
  ∑ l : Fin n, FloatOps.sitofp (F := Ideal) FTy.f32 (BitVec.setWidth 32 (IntOp.cmpi .eq (BitVec.ofNat 32 g.val) (v (ix1 l))))

/-- How many of the first `o` numbers are `g`. -/
def tally (b : IVec S50000 32) (g : Fin 64) (o : ℕ) : ℕ := upto (key b) (g.val : ℤ) o

/-- A natural among the extended reals. -/
def nat (n : ℕ) : EReal := ((n : ℝ) : EReal)

theorem nat_add (a b : ℕ) : nat (a + b) = (nat a + nat b : EReal) := by unfold nat; rw [Nat.cast_add, EReal.coe_add]

theorem nat_ite (p : Prop) [Decidable p] : nat (if p then 1 else 0) = (if p then 1 else 0 : EReal) := by
  by_cases h : p
  · rw [if_pos h, if_pos h]; unfold nat; simp
  · rw [if_neg h, if_neg h]; unfold nat; simp

theorem nat_sum {n : ℕ} (f : Fin n → ℕ) : nat (∑ j, f j) = ∑ j, nat (f j) := by
  unfold nat
  rw [Nat.cast_sum, coe_sum]

/-- A word is `g` exactly when it reads as `g`. -/
theorem word_eq_iff (g : Fin 64) (w : BitVec 32) : BitVec.ofNat 32 g.val = w ↔ w.toInt = (g.val : ℤ) := by
  have hg : g.val < 2 ^ 31 := lt_trans g.isLt (by decide)
  constructor
  · rintro rfl; exact toInt_small hg
  · intro h; exact BitVec.eq_of_toInt_eq ((toInt_small hg).trans h.symm)

/-- The hits in a vector that reads the numbers from position `o` on are what the tally grows by. -/
theorem hits_add (b : IVec S50000 32) (g : Fin 64) (o : ℕ) : ∀ {n : ℕ} (v : IVec (⟨1, ![n]⟩ : Shape) 32) (h : o + n ≤ 50000),
    (∀ l : Fin n, v (ix1 l) = b (ix1 ⟨o + l.val, by have := l.isLt; omega⟩)) → (nat (tally b g o) + hits g v : EReal) = nat (tally b g (o + n)) := by
  intro n v h hv
  have grow : ∀ k (hk : k ≤ n),
      (nat (tally b g o) + ∑ l : Fin k, (if key b ⟨o + l.val, by have := l.isLt; omega⟩ = (g.val : ℤ) then 1 else 0 : EReal) : EReal)
        = nat (tally b g (o + k)) := by
    intro k
    induction k with
    | zero => intro _; rw [Finset.univ_eq_empty, Finset.sum_empty, add_zero]; rfl
    | succ k ih =>
      intro hk
      rw [Fin.sum_univ_castSucc, ← add_assoc]
      refine (congrArg (fun t : EReal => (t + _ : EReal)) (ih (by omega))).trans ?_
      rw [show tally b g (o + (k + 1)) = _ from upto_succ (key b) _ (o + k) (by omega), nat_add, nat_ite]
      rfl
  rw [← grow n le_rfl]
  unfold hits
  refine congrArg (fun t : EReal => (nat (tally b g o) + t : EReal)) (Finset.sum_congr rfl fun l _ => ?_)
  refine (mask_eq _ _).trans (if_congr ?_ rfl rfl)
  rw [word_eq_iff, hv l]
  rfl

/-- A load of a stretch of the numbers reads them from its offset on. -/
theorem chunk_at (o n : ℕ) (x : IVec S50000 32) (inb : ∀ a, (![o] : Fin 1 → ℕ) a + (![n] : Fin 1 → ℕ) a ≤ S50000.size a)
    (l : Fin n) (h : o + l.val < 50000) :
    View.ld (Val := Elt Ideal) (e' := .i32) x (Rect.unit (s := S50000) ![o] ![n] inb) (ix1 l) = x (ix1 ⟨o + l.val, h⟩) := by
  show x _ = x _
  refine congrArg x (funext fun a => Fin.ext ?_)
  match a with
  | ⟨0, _⟩ => show o + 1 * l.val = o + l.val; omega

/-- A chunk's hits added to the tally up to its offset are the tally up to its end. -/
theorem hits_chunk (b : IVec S50000 32) (g : Fin 64) (o n : ℕ) (inb : ∀ a, (![o] : Fin 1 → ℕ) a + (![n] : Fin 1 → ℕ) a ≤ S50000.size a) :
    (nat (tally b g o) + hits g (View.ld (Val := Elt Ideal) (e' := .i32) b (Rect.unit (s := S50000) ![o] ![n] inb)) : EReal)
      = nat (tally b g (o + n)) := by
  have h : o + n ≤ 50000 := inb 0
  exact hits_add b g o _ h fun l => chunk_at o n b inb l (by have := l.isLt; omega)

/-- The count starts at nothing. -/
theorem nat_tally_zero (b : IVec S50000 32) (g : Fin 64) : nat (tally b g 0) = 0 := by
  rw [show tally b g 0 = 0 from upto_zero _ _]; unfold nat; simp

section
variable (g : Fin 64)

/-- The column of segment numbers `0, 1, …`. -/
abbrev numbers : IVec S64x1 32 := iota Kind.tc S64x1 32 [0] iota_S64x1_d0_w32

theorem numbers_at : numbers (ix2 g 0) = BitVec.ofNat 32 g.val := by pointwise [numbers]

/-- The first two chunks. -/
theorem pay8_at (u v : IVec S2048 32) : k0_pay8 (F := Ideal) u v (ix2 g 0) = (hits g u + hits g v : EReal) := by
  pointwise [k0_pay8, hits]

/-- One chunk alone. -/
theorem pay9_at (v : IVec S2048 32) : k0_pay9 (F := Ideal) v (ix2 g 0) = hits g v := by
  pointwise [k0_pay9, hits]

/-- One chunk alone, against the column of segment numbers. -/
theorem pay11_at (v : IVec S2048 32) : k0_pay11 (F := Ideal) numbers v (ix2 g 0) = hits g v := by
  pointwise [k0_pay11, hits]

/-- Four chunks added to a count. -/
theorem pay10_at (a c : FVec Ideal S64x1 .f32) (v₁ v₂ v₃ v₄ : IVec S2048 32) :
    k0_pay10 (F := Ideal) numbers a c v₁ v₂ v₃ v₄ (ix2 g 0)
      = (a (ix2 g 0) + c (ix2 g 0) + hits g v₁ + hits g v₂ + hits g v₃ + hits g v₄ : EReal) := by
  pointwise [k0_pay10, hits]

theorem pay12_eq : @k0_pay12 Ideal _ = @k0_pay10 Ideal _ := rfl
theorem pay13_eq : @k0_pay13 Ideal _ = @k0_pay11 Ideal _ := rfl
theorem pay14_eq : @k0_pay14 Ideal _ = @k0_pay10 Ideal _ := rfl
theorem pay15_eq : @k0_pay15 Ideal _ = @k0_pay11 Ideal _ := rfl
theorem pay16_eq : @k0_pay16 Ideal _ = @k0_pay10 Ideal _ := rfl
theorem pay17_eq : @k0_pay17 Ideal _ = @k0_pay11 Ideal _ := rfl

/-- The last two chunks added to a count. -/
theorem pay18_at (a c : FVec Ideal S64x1 .f32) (v : IVec S2048 32) (w : IVec S848 32) :
    k0_pay18 (F := Ideal) numbers a c v w (ix2 g 0) = (a (ix2 g 0) + c (ix2 g 0) + hits g v + hits g w : EReal) := by
  pointwise [k0_pay18, hits]

/-- The body's count of each segment's rows. -/
def counts (b : IVec S50000 32) : FVec Ideal S64x1 .f32 :=
  k0_pay18 (F := Ideal) numbers (most (F := Ideal) b) (late (F := Ideal) b)
    (View.ld (Val := Elt Ideal) (e' := .i32) b (Rect.unit (s := S50000) ![47104] ![2048] inb_S50000_S2048_47104))
    (View.ld (Val := Elt Ideal) (e' := .i32) b (Rect.unit (s := S50000) ![49152] ![848] inb_S50000_S848_49152))

/-- It is the number of rows of that segment. -/
theorem counts_at (b : IVec S50000 32) : counts b (ix2 g 0) = nat (count (key b) (g.val : ℤ)) := by
  unfold counts most late
  rw [pay18_at, pay17_eq, pay11_at, pay16_eq, pay10_at, pay15_eq, pay11_at, pay14_eq, pay10_at, pay13_eq, pay11_at, pay12_eq,
    pay10_at, pay11_at, pay10_at, pay8_at, pay9_at]
  rw [← zero_add (hits g _), ← nat_tally_zero b g]
  repeat rw [hits_chunk]
  exact congrArg nat (upto_all _ _)

/-- The unit matrix's entry. -/
theorem pay19_at (h : Fin 64) : k0_pay19 (F := Ideal) (ix2 g h) = (if g = h then 1 else 0 : EReal) := by
  have e := mask_eq_nat (lt_trans g.isLt (by decide)) (lt_trans h.isLt (by decide : 64 < 2 ^ 31))
  pointwise [k0_pay19]
  rw [e]
  exact if_congr Fin.ext_iff.symm rfl rfl

/-- A row of the unit matrix picks one summand. -/
theorem pick {n : ℕ} (g : Fin n) (f : Fin n → EReal) : (∑ h : Fin n, (if g = h then 1 else 0 : EReal) * f h : EReal) = f g := by
  rw [Finset.sum_eq_single g]
  · rw [if_pos rfl, one_mul]
  · intro h _ hne; rw [if_neg (Ne.symm hne), zero_mul]
  · intro h; exact absurd (Finset.mem_univ _) h

/-- The counts of the segments that satisfy a condition, added up. -/
theorem masked_sum (b : IVec S50000 32) (p : Fin 64 → Prop) [DecidablePred p] :
    (∑ j : Fin 64, (if p j then 1 else 0 : EReal) * nat (count (key b) (j.val : ℤ)) : EReal)
      = nat (∑ j : Fin 64, if p j then count (key b) (j.val : ℤ) else 0) := by
  rw [nat_sum]
  refine Finset.sum_congr rfl fun j _ => ?_
  by_cases h : p j
  · rw [if_pos h, if_pos h, one_mul]
  · rw [if_neg h, if_neg h, zero_mul]; unfold nat; simp

/-- WHERE SEGMENT `g` STARTS: at the number of smaller segment numbers, none of them being negative. -/
theorem starts_at (b : IVec S50000 32) (h0 : ∀ r, 0 ≤ key b r) : starts (F := Ideal) b (ix2 g 0) = nat (below (key b) (g.val : ℤ)) := by
  have e : ∀ j h : Fin 64, _ := fun j h => mask_lt_nat (lt_trans j.isLt (by decide : 64 < 2 ^ 31)) (lt_trans h.isLt (by decide : 64 < 2 ^ 31))
  have hc : ∀ j : Fin 64, k0_pay18 (F := Ideal) numbers (most (F := Ideal) b) (late (F := Ideal) b)
      (View.ld (Val := Elt Ideal) (e' := .i32) b (Rect.unit (s := S50000) ![47104] ![2048] inb_S50000_S2048_47104))
      (View.ld (Val := Elt Ideal) (e' := .i32) b (Rect.unit (s := S50000) ![49152] ![848] inb_S50000_S848_49152)) (ix2 j 0)
        = nat (count (key b) (j.val : ℤ)) := fun j => counts_at j b
  pointwise [starts, k0_pay20]
  simp only [hc, e, pay19_at]
  rw [pick g, masked_sum b fun j => j.val < g.val, below_eq_sum (key b) h0 (G := 64) g.val (le_of_lt g.isLt)]

/-- WHERE SEGMENT `g` ENDS: at the number of segment numbers that are not larger. -/
theorem ends_at (b : IVec S50000 32) (h0 : ∀ r, 0 ≤ key b r) : ends (F := Ideal) b (ix2 g 0) = nat (below (key b) ((g.val : ℤ) + 1)) := by
  have e : ∀ j h : Fin 64, _ := fun j h => mask_le_nat (lt_trans j.isLt (by decide : 64 < 2 ^ 31)) (lt_trans h.isLt (by decide : 64 < 2 ^ 31))
  have hc : ∀ j : Fin 64, k0_pay18 (F := Ideal) numbers (most (F := Ideal) b) (late (F := Ideal) b)
      (View.ld (Val := Elt Ideal) (e' := .i32) b (Rect.unit (s := S50000) ![47104] ![2048] inb_S50000_S2048_47104))
      (View.ld (Val := Elt Ideal) (e' := .i32) b (Rect.unit (s := S50000) ![49152] ![848] inb_S50000_S848_49152)) (ix2 j 0)
        = nat (count (key b) (j.val : ℤ)) := fun j => counts_at j b
  pointwise [ends, k0_pay22, k0_pay21]
  simp only [hc, e, pay19_at]
  rw [pick g, masked_sum b fun j => j.val ≤ g.val]
  have hb := below_eq_sum (key b) h0 (G := 64) (g.val + 1) g.isLt
  rw [Nat.cast_succ] at hb
  rw [hb]
  simp only [Nat.lt_succ_iff]

end

end Cert.Pool

end
-- ==== Proof.Scatter.lean ====
/-
  Where a scatter of whole rows puts its updates, the sums it then adds up, and what a gather of rows reads.
-/
module

public import proofs.«01_k».proof.ReferenceIdeal
public import Idealize.ShloMosaic.Lib.Pointwise
public import Idealize.ShloMosaic.Lib.Routing.Ops
public import Idealize.ShloMosaic.Lib.Routing.OpsPair

@[expose] public section

noncomputable section

namespace Cert.Pool

open Idealize.ShloMosaic

/-- Scattering whole rows by one column of row numbers: the update's entry `(i, y)` lands at `(g, y')` exactly when row `i`'s
    number is `g` and the columns are the same. -/
theorem row_lands {nb B n : ℕ} (d : ScatterDims (⟨2, ![nb, B]⟩ : Shape) (⟨2, ![n, 1]⟩ : Shape) (⟨2, ![n, B]⟩ : Shape))
    (huw : d.updateWindowDims = [1]) (hiw : d.insertedWindowDims = [0]) (hsd : d.scatterDimsToOperandDims = [0])
    (hiv : d.indexVectorDim = 1) (idx : IVec (⟨2, ![n, 1]⟩ : Shape) 32) (i : Fin n) (y y' : Fin B) (g : Fin nb) :
    d.resultIdx? (ix2 i y) idx = some (ix2 g y') ↔ (idx (ix2 i 0)).toInt = (g.val : ℤ) ∧ y = y' := by
  obtain ⟨uw, iw, sd, iv, wf⟩ := d
  dsimp only at huw hiw hsd hiv
  subst huw hiw hsd hiv
  rw [Routing.resultIdx?_eq_some]
  have e : ∀ P : Fin 2 → Prop, (∀ a, P a) ↔ P 0 ∧ P 1 := fun P => Fin.forall_fin_two
  refine (e _).trans ?_
  have s0 : ScatterDims.start ⟨[1], [0], [0], 1, wf⟩ (ix2 i y) idx (0 : Fin 2) = (idx (ix2 i 0)).toInt := by
    unfold ScatterDims.start
    rw [dif_pos (List.mem_singleton.2 rfl)]
    refine congrArg (fun j => (idx j).toInt) (funext fun b => ?_)
    match b with
    | ⟨0, _⟩ => rfl
    | ⟨1, _⟩ => rfl
  have s1 : ScatterDims.start ⟨[1], [0], [0], 1, wf⟩ (ix2 i y) idx (1 : Fin 2) = 0 := rfl
  have w0 : ScatterDims.window ⟨[1], [0], [0], 1, wf⟩ (ix2 i y) (0 : Fin 2) = 0 := rfl
  have w1 : ScatterDims.window ⟨[1], [0], [0], 1, wf⟩ (ix2 i y) (1 : Fin 2) = y.val := rfl
  rw [s0, s1, w0, w1]
  show (idx (ix2 i 0)).toInt + ((0 : ℕ) : ℤ) = (g.val : ℤ) ∧ (0 : ℤ) + (y.val : ℤ) = (y'.val : ℤ) ↔ _
  rw [Fin.ext_iff]
  omega

/-- Adding whole rows up by one column of row numbers: entry `(g, y)` is what was there plus the sum of the entries `(i, y)` over the
    rows `i` whose number is `g`. -/
theorem row_sums {nb B n : ℕ} (d : ScatterDims (⟨2, ![nb, B]⟩ : Shape) (⟨2, ![n, 1]⟩ : Shape) (⟨2, ![n, B]⟩ : Shape))
    (huw : d.updateWindowDims = [1]) (hiw : d.insertedWindowDims = [0]) (hsd : d.scatterDimsToOperandDims = [0])
    (hiv : d.indexVectorDim = 1) (z : FVec Ideal (⟨2, ![nb, B]⟩ : Shape) .f32) (idx : IVec (⟨2, ![n, 1]⟩ : Shape) 32)
    (u : FVec Ideal (⟨2, ![n, B]⟩ : Shape) .f32) (g : Fin nb) (y : Fin B) :
    Host.scatterAdd (F := Ideal) d z idx u (ix2 g y)
      = (z (ix2 g y) + ∑ i ∈ Finset.univ.filter (fun i : Fin n => (idx (ix2 i 0)).toInt = (g.val : ℤ)), u (ix2 i y) : EReal) := by
  show (z (ix2 g y) + ∑ j ∈ Finset.univ.filter (fun j => d.resultIdx? j idx = some (ix2 g y)), u j : EReal) = _
  refine congrArg (fun t : EReal => (z (ix2 g y) + t : EReal)) ?_
  rw [Finset.sum_filter, sum_idx2, Finset.sum_filter]
  refine Finset.sum_congr rfl fun i _ => ?_
  rw [Finset.sum_eq_single y]
  · refine if_congr ?_ rfl rfl
    rw [row_lands d huw hiw hsd hiv]
    exact ⟨fun h => h.1, fun h => ⟨h, rfl⟩⟩
  · intro y' _ hne
    refine if_neg fun h => hne ?_
    exact ((row_lands d huw hiw hsd hiv idx i y' y g).1 h).2
  · intro h; exact absurd (Finset.mem_univ _) h

/-- Reading whole rows by one column of row numbers: where row `i`'s number is `g`, entry `(i, y)` is the table's entry `(g, y)`. -/
theorem row_read {α : Type} {nb B n : ℕ} (d : GatherDims (⟨2, ![nb, B]⟩ : Shape) (⟨2, ![n, 1]⟩ : Shape) (⟨2, ![n, B]⟩ : Shape))
    (hoff : d.offsetDims = [1]) (hcoll : d.collapsedSliceDims = [0]) (hob : d.operandBatchingDims = [])
    (hsim : d.startIndexMap = [0]) (hivd : d.indexVectorDim = 1) (t : (⟨2, ![nb, B]⟩ : Shape).Idx → α)
    (idx : IVec (⟨2, ![n, 1]⟩ : Shape) 32) (i : Fin n) (y : Fin B) (g : Fin nb) (hg : idx (ix2 i 0) = BitVec.ofNat 32 g.val)
    (hnb : nb < 2 ^ 31) : Host.gather d t idx (ix2 i y) = t (ix2 g y) := by
  rw [ix2_eq_valueIdx, ix2_eq_valueIdx]
  rw [ix2_eq_valueIdx] at hg
  exact Routing.gather_row d hoff hcoll hob hsim hivd t idx i y g hg hnb

end Cert.Pool

end
-- ==== Proof.Ref.lean ====
/-
  What the reference computes, at an index: each row's score, each segment's rows, and the pooled rows as sums over them.
-/
module

public import proofs.«01_k».proof.Proof.Gen.ReferenceIdeal.Run
public import proofs.«01_k».proof.Proof.Scatter

@[expose] public section

set_option maxRecDepth 16384

noncomputable section

namespace Cert.Pool

open Cert.ReferenceIdeal Cert.ReferenceIdeal.Gen Idealize.ShloMosaic Idealize.ShloMosaic.TcCoe Idealize.SL.Sem

/-- Row `r`'s score: `tanh (x W1 + b1) W2 + b2` at that row. -/
def score (x : FVec Ideal S50000x512 .f32) (w1 : FVec Ideal S512x256 .f32) (b1 : FVec Ideal S256 .f32) (w2 : FVec Ideal S256x1 .f32)
    (b2 : FVec Ideal S1 .f32) (r : Fin 50000) : EReal :=
  (∑ j : Fin 256, Ideal.tanh ((∑ k : Fin 512, x (ix2 r k) * w1 (ix2 k j)) + b1 (ix1 j) : EReal) * w2 (ix2 j 0) : EReal)
    + b2 (ix1 0)

/-- The rows whose segment number is `g`. -/
def rows (b : IVec S50000 32) (g : Fin 64) : Finset (Fin 50000) :=
  Finset.univ.filter fun r => (b (ix1 r)).toInt = (g.val : ℤ)

/-- The small number added to a segment's sum of weights. -/
def eps : EReal := Ideal.ofBits .f32 0x322BCC77#32

section
variable (x : FVec Ideal S50000x512 .f32) (b : IVec S50000 32) (w1 : FVec Ideal S512x256 .f32) (b1 : FVec Ideal S256 .f32)
  (w2 : FVec Ideal S256x1 .f32) (b2 : FVec Ideal S1 .f32)

/-- The column of the scores, as the reference computes it. -/
def scores : FVec Ideal S50000x1 .f32 :=
  addf (Host.dotGeneral dot_S50000x256_S256x1_S50000x1_1_0_0_1_n_n none (Host.tanh (addf (Host.dotGeneral dot_S50000x512_S512x256_S50000x256_1_0_0_1_n_n none x w1) (broadcastInDim S50000x256 ![0, 1] bcast_S1x256_S50000x256_0_1 (broadcastInDim S1x256 ![1] bcast_S256_S1x256_1 b1)))) w2) (broadcastInDim S50000x1 ![0, 1] bcast_S1x1_S50000x1_0_1 (broadcastInDim S1x1 ![1] bcast_S1_S1x1_1 b2))

/-- The segment numbers as a column. -/
def column : IVec S50000x1 32 := broadcastInDim S50000x1 ![0] bcast_S50000_S50000x1_0 b

/-- The segment numbers as a column, 64 added to the negative ones. -/
def wrapped : IVec S50000x1 32 :=
  broadcastInDim S50000x1 ![0] bcast_S50000_S50000x1_0 (select (cmpi .slt b (broadcastInDim S50000 ![] bcast_S_S50000 (constantI S_ 32 0#32))) (addi b (broadcastInDim S50000 ![] bcast_S_S50000 (constantI S_ 32 64#32))) b)

/-- A column's sums over the segments. -/
def sums (u : FVec Ideal S50000x1 .f32) : FVec Ideal S64x1 .f32 :=
  Host.scatterAdd scatter_S64x1_S50000x1_S50000x1_1_0_0_1 (broadcastInDim S64x1 ![] bcast_S_S64x1 (constant S_ .f32 0x00000000#32)) (column b) u

/-- Each row given its segment's entry. -/
def spread (t : FVec Ideal S64x1 .f32) : FVec Ideal S50000x1 .f32 :=
  Host.gather gather_S64x1_S50000x1_S50000x1_1_0_n_n_0_1_11 t (wrapped b)

/-- A column's exponentials, shifted by the segments' sums. -/
def shifted (s : FVec Ideal S50000x1 .f32) : FVec Ideal S50000x1 .f32 := Host.exp (subf s (spread b (sums b s)))

/-- The weights: the shifted exponentials over their sums plus the small number. -/
def weights (a : FVec Ideal S50000x1 .f32) : FVec Ideal S50000x1 .f32 :=
  Host.divf a (addf (spread b (sums b a)) (broadcastInDim S50000x1 ![] bcast_S_S50000x1 (constant S_ .f32 0x322BCC77#32)))

/-- The pooled rows, for a given column of weights. -/
def pooled (w : FVec Ideal S50000x1 .f32) : FVec Ideal S64x512 .f32 :=
  Host.scatterAdd scatter_S64x512_S50000x1_S50000x512_1_0_0_1 (broadcastInDim S64x512 ![] bcast_S_S64x512 (constant S_ .f32 0x00000000#32)) (column b) (mulf x (broadcastInDim S50000x512 ![0, 1] bcast_S50000x1_S50000x512_0_1 w))

/-- The score column at a row. -/
theorem scores_at (r : Fin 50000) : scores x w1 b1 w2 b2 (ix2 r 0) = score x w1 b1 w2 b2 r := by
  pointwise [scores, score]

/-- The column of segment numbers at a row. -/
theorem column_at (r : Fin 50000) : column b (ix2 r 0) = b (ix1 r) := by
  pointwise [column]

/-- A row of segment `g` reads entry `g`: a number that is not negative is not shifted. -/
theorem wrapped_at (r : Fin 50000) (g : Fin 64) (h : (b (ix1 r)).toInt = (g.val : ℤ)) :
    wrapped b (ix2 r 0) = BitVec.ofNat 32 g.val := by
  have hg : g.val < 2 ^ 31 := lt_trans g.isLt (by decide)
  have hb : b (ix1 r) = BitVec.ofNat 32 g.val :=
    BitVec.eq_of_toInt_eq (h.trans (StableHlo.Predicate.toInt_ofNat_small g.val hg).symm)
  have hs : wrapped b (ix2 r 0) = Scalar.select (IntOp.cmpi .slt (b (ix1 r)) 0#32) (b (ix1 r) + 64#32) (b (ix1 r)) := by
    pointwise [wrapped]
    rfl
  rw [hs, Routing.wrap_of_lt _ _ ?_, hb]
  rw [hb, BitVec.toNat_ofNat, Nat.mod_eq_of_lt (lt_trans hg (by decide))]
  exact hg

/-- A segment's sum. -/
theorem sums_at (u : FVec Ideal S50000x1 .f32) (g : Fin 64) : sums b u (ix2 g 0) = (∑ i ∈ rows b g, u (ix2 i 0) : EReal) := by
  unfold sums
  refine (row_sums _ rfl rfl rfl rfl _ _ u g 0).trans ?_
  simp only [column_at]
  have hz : broadcastInDim S64x1 ![] bcast_S_S64x1 (constant (F := Ideal) S_ .f32 0x00000000#32) (ix2 g 0) = (0 : EReal) := by
    pointwise
  rw [hz, zero_add]
  rfl

/-- A row of segment `g` is given entry `g`. -/
theorem spread_at (t : FVec Ideal S64x1 .f32) (r : Fin 50000) (g : Fin 64) (h : r ∈ rows b g) :
    spread b t (ix2 r 0) = t (ix2 g 0) := by
  unfold spread
  exact row_read _ rfl rfl rfl rfl rfl t _ r 0 g (wrapped_at b r g (Finset.mem_filter.1 h).2) (by decide)

/-- A shifted exponential at a row of segment `g`. -/
theorem shifted_at (s : FVec Ideal S50000x1 .f32) (r : Fin 50000) (g : Fin 64) (h : r ∈ rows b g) :
    shifted b s (ix2 r 0) = Ideal.exp (s (ix2 r 0) - ∑ l ∈ rows b g, s (ix2 l 0) : EReal) := by
  rw [← sums_at b s g, ← spread_at b (sums b s) r g h]
  pointwise [shifted]

/-- A weight at a row of segment `g`. -/
theorem weights_at (a : FVec Ideal S50000x1 .f32) (r : Fin 50000) (g : Fin 64) (h : r ∈ rows b g) :
    weights b a (ix2 r 0) = Ideal.div (a (ix2 r 0)) ((∑ l ∈ rows b g, a (ix2 l 0)) + eps : EReal) := by
  rw [← sums_at b a g, ← spread_at b (sums b a) r g h]
  pointwise [weights, eps]

/-- A pooled entry. -/
theorem pooled_at (w : FVec Ideal S50000x1 .f32) (g : Fin 64) (y : Fin 512) :
    pooled x b w (ix2 g y) = (∑ i ∈ rows b g, x (ix2 i y) * w (ix2 i 0) : EReal) := by
  unfold pooled
  refine (row_sums _ rfl rfl rfl rfl _ _ _ g y).trans ?_
  simp only [column_at]
  have hz : broadcastInDim S64x512 ![] bcast_S_S64x512 (constant (F := Ideal) S_ .f32 0x00000000#32) (ix2 g y) = (0 : EReal) := by
    pointwise
  rw [hz, zero_add]
  refine Finset.sum_congr rfl fun i _ => ?_
  pointwise

/-- THE REFERENCE AT AN INDEX: the sum over the segment's rows of the row's entry times its weight. -/
theorem reference_at (g : Fin 64) (y : Fin 512) :
    pooled x b (weights b (shifted b (scores x w1 b1 w2 b2))) (ix2 g y)
      = (∑ i ∈ rows b g, x (ix2 i y) * Ideal.div (Ideal.exp (score x w1 b1 w2 b2 i - ∑ l ∈ rows b g, score x w1 b1 w2 b2 l))
          ((∑ j ∈ rows b g, Ideal.exp (score x w1 b1 w2 b2 j - ∑ l ∈ rows b g, score x w1 b1 w2 b2 l)) + eps) : EReal) := by
  rw [pooled_at]
  refine Finset.sum_congr rfl fun i hi => ?_
  have e : ∀ j ∈ rows b g, shifted b (scores x w1 b1 w2 b2) (ix2 j 0)
      = Ideal.exp (score x w1 b1 w2 b2 j - ∑ l ∈ rows b g, score x w1 b1 w2 b2 l : EReal) := fun j hj => by
    rw [shifted_at b _ j g hj]
    simp only [scores_at]
  rw [weights_at b _ i g hi, e i hi, Finset.sum_congr rfl e]

end

/-- The reference's result is those pieces put together. -/
theorem reference_eq (m : (ℓ : Loc nD τ sig) → Buf (Elt Ideal) ℓ) (c : Dev nD) :
    Cert.ReferenceIdeal.Value.res_main_v38 m c
      = pooled (m ((c.tc : Thread nD τ).loc main_arg0)) (m ((c.tc : Thread nD τ).loc main_arg1))
          (weights (m ((c.tc : Thread nD τ).loc main_arg1)) (shifted (m ((c.tc : Thread nD τ).loc main_arg1))
            (scores (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5))))) := rfl

end Cert.Pool

end
-- ==== Proof.Step.lean ====
/-
  One grid point's accumulation at an index: each of the three sums grows by its rows of the segment.
-/
module

public import proofs.«01_k».proof.Proof.Segments
public import proofs.«01_k».proof.Proof.Ref

@[expose] public section

set_option maxRecDepth 16384

noncomputable section

namespace Cert.Pool

open Cert.KernelIdeal Cert.KernelIdeal.Gen Idealize.ShloMosaic Idealize.ShloMosaic.TcCoe Idealize.SL.Sem

/-- The unit matrix's entry. -/
theorem pay24_at (g h : Fin 256) : k0_pay24 (F := Ideal) (ix2 g h) = (if g = h then 1 else 0 : EReal) := by
  have e := mask_eq_nat (lt_trans g.isLt (by decide)) (lt_trans h.isLt (by decide : 256 < 2 ^ 31))
  pointwise [k0_pay24]
  rw [e]
  exact if_congr Fin.ext_iff.symm rfl rfl

/-- The first weight transposed. -/
theorem pay23_at (w : FVec Ideal S512x256 .f32) (j : Fin 256) (k : Fin 512) : k0_pay23 (F := Ideal) w (ix2 j k) = w (ix2 k j) := by
  pointwise [k0_pay23]

/-- The first bias, a row turned into a column. -/
theorem pay25_at (w : FVec Ideal S1x256 .f32) (j : Fin 256) : k0_pay25 (F := Ideal) w (ix2 j 0) = w (ix2 0 j) := by
  pointwise [k0_pay25]
  simp only [pay24_at]
  exact pick j fun x => w (ix2 0 x)

/-- The second weight, a column turned into a row. -/
theorem pay26_at (w : FVec Ideal S256x1 .f32) (j : Fin 256) : k0_pay26 (F := Ideal) w (ix2 0 j) = w (ix2 j 0) := by
  pointwise [k0_pay26]
  simp only [pay24_at, eq_comm (b := j)]
  exact pick j fun x => w (ix2 x 0)

/-- The constant 5000. -/
theorem block_rows : Ideal.ofBits .f32 0x459C4000#32 = ((5000 : ℝ) : EReal) := by
  simp [Ideal.ofBits, Ideal.ieee, -EReal.coe_mul]
  norm_num

/-- THE MASK OF A BLOCK: with the counts as the bounds of each segment, row `l` of block `i` is in segment `g` exactly when its number is
    `g`. -/
theorem pay29_at (b : IVec S50000 32) (hb : Monotone (key b)) (i : grid0.Coords) (st en : FVec Ideal S64x1 .f32) (g : Fin 64) (l : Fin 5000)
    (o : ℕ) (ho : o = 5000 * (i 0).val) (h : o + l.val < 50000)
    (hs : st (ix2 g 0) = nat (below (key b) (g.val : ℤ))) (he : en (ix2 g 0) = nat (below (key b) ((g.val : ℤ) + 1))) :
    k0_pay29 (F := Ideal) i st en (ix2 g l) = (if key b ⟨o + l.val, h⟩ = (g.val : ℤ) then 1 else 0 : EReal) := by
  have hi : (BitVec.ofNat 32 (i 0).val).toInt = ((i 0).val : ℤ) := toInt_small (by omega)
  have hl : FloatOps.sitofp (F := Ideal) FTy.f32 (BitVec.ofNat 32 l.val) = nat l.val := by
    show (((BitVec.ofNat 32 l.val).toInt : ℝ) : EReal) = _
    rw [toInt_small (lt_trans l.isLt (by decide))]
    rfl
  have hr : ((((i 0).val : ℤ) : ℝ) : EReal) * ((5000 : ℝ) : EReal) + nat l.val = nat (o + l.val) := by
    rw [nat_add, ho]
    unfold nat
    rw [← EReal.coe_mul, mul_comm]
    push_cast
    rfl
  have hle : ∀ a b : ℕ, nat a ≤ nat b ↔ a ≤ b := fun a b => EReal.coe_le_coe_iff.trans Nat.cast_le
  have hlt : ∀ a b : ℕ, nat a < nat b ↔ a < b := fun a b => EReal.coe_lt_coe_iff.trans Nat.cast_lt
  have hand : ∀ p q : Bool, IntOp.andi (BitVec.ofBool p) (BitVec.ofBool q) = BitVec.ofBool (p && q) := by decide
  pointwise [k0_pay29]
  rw [hi, block_rows, hl, hr, hs, he, hand, mask_bool]
  refine if_congr ?_ rfl rfl
  rw [Bool.and_eq_true, decide_eq_true_iff, decide_eq_true_iff, hle, hlt]
  exact between_iff (key b) hb (g.val : ℤ) ⟨o + l.val, h⟩

end Cert.Pool

end
-- ==== Proof.Blocks.lean ====
/-
  What each grid point is handed: 5000 rows of `x`, and the other arrays whole.
-/
module

public import proofs.«01_k».proof.Proof.Opened
public import Idealize.ShloMosaic.Lib.Pointwise
public import Idealize.ShloMosaic.Lib.Pipeline.ValueKit.Point
public import Idealize.ShloMosaic.Lib.Claim

@[expose] public section

set_option maxRecDepth 16384

noncomputable section

namespace Cert.Pool

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- Where the windows stand: the first at block `t`, the others at their only block. -/
theorem index_x : win0_0.index t = ![t.val, 0] := by
  have h : ∀ t : Fin cfg0.N, win0_0.index t = ![t.val, 0] := by decide
  exact h t

/-- A row of the block of `x`. -/
theorem block_x (l : Fin 5000) (k : Fin 512) (h : 5000 * t.val + l.val < 50000) :
    iblk m c 0 t (ix2 l k) = m ((c.tc : Thread nD τ).loc main_arg0) (ix2 ⟨5000 * t.val + l.val, h⟩ k) := by
  have e := index_x t
  blk_ext [iblk, V, e]

theorem block_b (r : Fin 50000) : iblk m c 1 t (ix1 r) = m ((c.tc : Thread nD τ).loc main_arg1) (ix1 r) := by
  have e : win0_1.index t = ![0] := by revert t; decide
  blk_ext [iblk, V, e]

theorem block_w1 (k : Fin 512) (j : Fin 256) : iblk m c 2 t (ix2 k j) = m ((c.tc : Thread nD τ).loc main_arg2) (ix2 k j) := by
  have e : win0_2.index t = ![0, 0] := by revert t; decide
  blk_ext [iblk, V, e]

/-- The launch is handed the first bias as a row. -/
theorem entry_b1 : (V m c main_v0 : FVec Ideal S1x256 .f32) = shapeCast S1x256 (m ((c.tc : Thread nD τ).loc main_arg3)) shapeCasts_S256_S1x256 := by
  entry_read
  rfl

/-- The launch is handed the second bias as a matrix of one entry. -/
theorem entry_b2 : (V m c main_v1 : FVec Ideal S1x1 .f32) = shapeCast S1x1 (m ((c.tc : Thread nD τ).loc main_arg5)) shapeCasts_S1_S1x1 := by
  entry_read
  rfl

theorem block_b1 (j : Fin 256) : iblk m c 3 t (ix2 0 j) = m ((c.tc : Thread nD τ).loc main_arg3) (ix1 j) := by
  have e : win0_3.index t = ![0, 0] := by revert t; decide
  have h : iblk m c 3 t (ix2 0 j) = (V m c main_v0 : FVec Ideal S1x256 .f32) (ix2 0 j) := by
    blk_ext [iblk, e]
  rw [h, entry_b1]
  pointwise

theorem block_w2 (j : Fin 256) : iblk m c 4 t (ix2 j 0) = m ((c.tc : Thread nD τ).loc main_arg4) (ix2 j 0) := by
  have e : win0_4.index t = ![0, 0] := by revert t; decide
  blk_ext [iblk, V, e]

theorem block_b2 : iblk m c 5 t (ix2 0 0) = m ((c.tc : Thread nD τ).loc main_arg5) (ix1 0) := by
  have e : win0_5.index t = ![0, 0] := by revert t; decide
  have h : iblk m c 5 t (ix2 0 0) = (V m c main_v1 : FVec Ideal S1x1 .f32) (ix2 0 0) := by
    blk_ext [iblk, e]
  rw [h, entry_b2]
  pointwise

end Cert.Pool

end
-- ==== Proof.Fold.lean ====
/-
  The sums the launch carries from one grid point to the next, and what they are when a point is done.
-/
module

public import proofs.«01_k».proof.Proof.Step
public import proofs.«01_k».proof.Proof.Blocks

@[expose] public section

set_option maxRecDepth 16384

noncomputable section

namespace Cert.Pool

open Cert.KernelIdeal Cert.KernelIdeal.Gen Idealize.ShloMosaic Idealize.ShloMosaic.TcCoe Idealize.SL.Sem

section
variable (x : FVec Ideal S50000x512 .f32) (b : IVec S50000 32) (w1 : FVec Ideal S512x256 .f32) (b1 : FVec Ideal S256 .f32)
  (w2 : FVec Ideal S256x1 .f32) (b2 : FVec Ideal S1 .f32)

/-- What the carried values are when the first `o` rows have been added: for every segment the pooled rows, the sum of the
    exponentials and the sum of the scores, over those of the first `o` rows that are in it; beside them each segment's start and end and
    the weights as the body keeps them. -/
structure Carried (P : State Ideal) (o : ℕ) : Prop where
  out : ∀ (g : Fin 64) (y : Fin 512), P.1 (ix2 g y)
    = partSum (key b) (fun r => (Ideal.exp (score x w1 b1 w2 b2 r) * x (ix2 r y) : EReal)) (g.val : ℤ) o
  weight : ∀ g : Fin 64, P.2.1 (ix2 g 0) = partSum (key b) (fun r => Ideal.exp (score x w1 b1 w2 b2 r)) (g.val : ℤ) o
  total : ∀ g : Fin 64, P.2.2.1 (ix2 g 0) = partSum (key b) (score x w1 b1 w2 b2) (g.val : ℤ) o
  start : ∀ g : Fin 64, P.2.2.2.1 (ix2 g 0) = nat (below (key b) (g.val : ℤ))
  stop : ∀ g : Fin 64, P.2.2.2.2.1 (ix2 g 0) = nat (below (key b) ((g.val : ℤ) + 1))
  first : ∀ (j : Fin 256) (k : Fin 512), P.2.2.2.2.2.1 (ix2 j k) = w1 (ix2 k j)
  bias : ∀ j : Fin 256, P.2.2.2.2.2.2.1 (ix2 j 0) = b1 (ix1 j)
  second : ∀ j : Fin 256, P.2.2.2.2.2.2.2 (ix2 0 j) = w2 (ix2 j 0)

/-- A row's score as the body computes it. -/
theorem pay27_at (x0 : FVec Ideal S5000x512 .f32) (x5 : FVec Ideal S1x1 .f32) (P : State Ideal) (o : ℕ)
    (hP : Carried x b w1 b1 w2 b2 P o) (l : Fin 5000) (h : o + l.val < 50000)
    (hx : ∀ k : Fin 512, x0 (ix2 l k) = x (ix2 ⟨o + l.val, h⟩ k)) (h5 : x5 (ix2 0 0) = b2 (ix1 0)) :
    k0_pay27 (F := Ideal) x0 P.2.2.2.2.2.1 P.2.2.2.2.2.2.1 P.2.2.2.2.2.2.2 x5 (ix2 0 l) = score x w1 b1 w2 b2 ⟨o + l.val, h⟩ := by
  pointwise [k0_pay27]
  rw [h5]
  unfold score
  refine congrArg (fun s : EReal => (s + b2 (ix1 0) : EReal)) (Finset.sum_congr rfl fun j _ => ?_)
  rw [hP.second j, hP.bias j, mul_comm]
  refine congrArg (fun s : EReal => (Ideal.tanh (s + b1 (ix1 j) : EReal) * w2 (ix2 j 0) : EReal)) (Finset.sum_congr rfl fun k _ => ?_)
  rw [hP.first j k, hx k, mul_comm]

/-- A masked term is the term or nothing. -/
theorem masked (p : Prop) [Decidable p] (a : EReal) : ((if p then 1 else 0 : EReal) * a : EReal) = if p then a else 0 := by
  by_cases h : p
  · rw [if_pos h, if_pos h, one_mul]
  · rw [if_neg h, if_neg h, zero_mul]

/-- The last point's division. -/
theorem pay4_at (u w : FVec Ideal S64x1 .f32) (v : FVec Ideal S64x512 .f32) (g : Fin 64) (y : Fin 512) :
    k0_pay4 (F := Ideal) u v w (ix2 g y)
      = Ideal.div (Ideal.exp (0 - u (ix2 g 0)) * v (ix2 g y) : EReal) (Ideal.exp (0 - u (ix2 g 0)) * w (ix2 g 0) + eps : EReal) := by
  pointwise [k0_pay4, eps]

/-- ALL ROWS ADDED, the division gives each segment's sums over all its rows, shifted and divided. -/
theorem divided (P : State Ideal) (hP : Carried x b w1 b1 w2 b2 P 50000) (g : Fin 64) (y : Fin 512) :
    k0_pay4 (F := Ideal) P.2.2.1 P.1 P.2.1 (ix2 g y)
      = Ideal.div (Ideal.exp (0 - ∑ i ∈ rows b g, score x w1 b1 w2 b2 i)
            * ∑ i ∈ rows b g, Ideal.exp (score x w1 b1 w2 b2 i) * x (ix2 i y) : EReal)
          (Ideal.exp (0 - ∑ i ∈ rows b g, score x w1 b1 w2 b2 i) * (∑ i ∈ rows b g, Ideal.exp (score x w1 b1 w2 b2 i)) + eps : EReal) := by
  rw [pay4_at, hP.out g y, hP.weight g, hP.total g, partSum_all, partSum_all, partSum_all]
  rfl

/-- ONE GRID POINT adds its 5000 rows. -/
theorem step_carried (hb : Monotone (key b)) (i : grid0.Coords) (x0 : FVec Ideal S5000x512 .f32) (x5 : FVec Ideal S1x1 .f32) (P : State Ideal)
    (o : ℕ) (ho : o = 5000 * (i 0).val) (h : o + 5000 ≤ 50000) (hP : Carried x b w1 b1 w2 b2 P o)
    (hx : ∀ (l : Fin 5000) (k : Fin 512) (hl : o + l.val < 50000), x0 (ix2 l k) = x (ix2 ⟨o + l.val, hl⟩ k)) (h5 : x5 (ix2 0 0) = b2 (ix1 0)) :
    Carried x b w1 b1 w2 b2 (step i x0 x5 P) (o + 5000) := by
  have hlt : ∀ l : Fin 5000, o + l.val < 50000 := fun l => by have := l.isLt; omega
  have hm : ∀ (g : Fin 64) (l : Fin 5000), k0_pay29 (F := Ideal) i P.2.2.2.1 P.2.2.2.2.1 (ix2 g l)
      = (if key b ⟨o + l.val, hlt l⟩ = (g.val : ℤ) then 1 else 0 : EReal) := fun g l =>
    pay29_at b hb i _ _ g l o ho (hlt l) (hP.start g) (hP.stop g)
  have hs : ∀ l : Fin 5000, k0_pay27 (F := Ideal) x0 P.2.2.2.2.2.1 P.2.2.2.2.2.2.1 P.2.2.2.2.2.2.2 x5 (ix2 0 l)
      = score x w1 b1 w2 b2 ⟨o + l.val, hlt l⟩ := fun l => pay27_at x b w1 b1 w2 b2 x0 x5 P o hP l (hlt l) (fun k => hx l k (hlt l)) h5
  have he : ∀ l : Fin 5000, k0_pay28 (F := Ideal) x0 P.2.2.2.2.2.1 P.2.2.2.2.2.2.1 P.2.2.2.2.2.2.2 x5 (ix2 0 l)
      = Ideal.exp (score x w1 b1 w2 b2 ⟨o + l.val, hlt l⟩) := fun l => by
    rw [← hs l]
    pointwise [k0_pay28]
  have hw : ∀ (g : Fin 64) (l : Fin 5000), k0_pay30 (F := Ideal) i x0 P.2.2.2.2.2.1 P.2.2.2.2.2.2.1 P.2.2.2.2.2.2.2 x5 P.2.2.2.1 P.2.2.2.2.1 (ix2 g l)
      = ((if key b ⟨o + l.val, hlt l⟩ = (g.val : ℤ) then 1 else 0 : EReal) * Ideal.exp (score x w1 b1 w2 b2 ⟨o + l.val, hlt l⟩) : EReal) := fun g l => by
    rw [← hm g l, ← he l]
    pointwise [k0_pay30]
  refine ⟨fun g y => ?_, fun g => ?_, fun g => ?_, hP.start, hP.stop, hP.first, hP.bias, hP.second⟩
  · rw [partSum_add _ _ _ o 5000 h, ← hP.out g y]
    dsimp only [step]
    pointwise [k0_pay1]
    refine congrArg (fun s : EReal => (P.1 (ix2 g y) + s : EReal)) (Finset.sum_congr rfl fun l _ => ?_)
    rw [hw g l, hx l y (hlt l), mul_assoc, masked]
  · rw [partSum_add _ _ _ o 5000 h, ← hP.weight g]
    dsimp only [step]
    pointwise [k0_pay3]
    refine congrArg (fun s : EReal => (P.2.1 (ix2 g 0) + s : EReal)) (Finset.sum_congr rfl fun l _ => ?_)
    rw [hm g l, he l, masked]
  · rw [partSum_add _ _ _ o 5000 h, ← hP.total g]
    dsimp only [step]
    pointwise [k0_pay2]
    refine congrArg (fun s : EReal => (P.2.2.1 (ix2 g 0) + s : EReal)) (Finset.sum_congr rfl fun l _ => ?_)
    rw [hm g l, hs l, masked]

/-- WHAT THE FIRST POINT PUTS IN PLACE: nothing added yet. -/
theorem init_carried (h0 : ∀ r, 0 ≤ key b r) (x1 : IVec S50000 32) (x2 : FVec Ideal S512x256 .f32) (x3 : FVec Ideal S1x256 .f32)
    (x4 : FVec Ideal S256x1 .f32) (e1 : ∀ r, x1 (ix1 r) = b (ix1 r)) (e2 : ∀ k j, x2 (ix2 k j) = w1 (ix2 k j))
    (e3 : ∀ j, x3 (ix2 0 j) = b1 (ix1 j)) (e4 : ∀ j, x4 (ix2 j 0) = w2 (ix2 j 0)) :
    Carried x b w1 b1 w2 b2 (init (F := Ideal) x1 x2 x3 x4) 0 := by
  have e : x1 = b := funext fun r => by rw [eq_ix1 r]; exact e1 _
  subst e
  refine ⟨fun g y => ?_, fun g => ?_, fun g => ?_, fun g => starts_at g x1 h0, fun g => ends_at g x1 h0, fun j k => (pay23_at x2 j k).trans (e2 k j),
    fun j => (pay25_at x3 j).trans (e3 j), fun j => (pay26_at x4 j).trans (e4 j)⟩
  · rw [partSum_zero]; dsimp only [init]; pointwise [k0_pay5]
  · rw [partSum_zero]; dsimp only [init]; pointwise [k0_pay6]
  · rw [partSum_zero]; dsimp only [init]; pointwise [k0_pay7]

end

section
variable (m : (ℓ : Loc nD τ sig) → Buf (Elt Ideal) ℓ) (c : Dev nD)

/-- The carried values over what the arguments hold. -/
abbrev Holds (P : State Ideal) (o : ℕ) : Prop :=
  Carried (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) P o

/-- Point `t` adds rows `5000 t` to `5000 t + 4999`. -/
theorem point_holds (hb : Monotone (key (m ((c.tc : Thread nD τ).loc main_arg1)))) (t : Fin cfg0.N) (P : State Ideal)
    (hP : Holds m c P (5000 * t.val)) :
    Holds m c (step (grid0.coords t) (iblk m c 0 t) (iblk m c 5 t) P) (5000 * (t.val + 1)) := by
  have hN : cfg0.N = 10 := N_0
  have ht := t.isLt
  have hc : ((grid0.coords t) 0).val = t.val := by
    have h : ∀ t : Fin cfg0.N, ((grid0.coords t) 0).val = t.val := by decide
    exact h t
  refine step_carried _ _ _ _ _ _ hb (grid0.coords t) _ _ P (5000 * t.val) (by rw [hc]) (by omega) hP ?_ (block_b2 m c t)
  exact fun l k hl => block_x m c t l k hl

/-- After each point but the last, the carried values hold the rows so far. -/
theorem outs_hold (hb : Monotone (key (m ((c.tc : Thread nD τ).loc main_arg1)))) (h0 : ∀ r, 0 ≤ key (m ((c.tc : Thread nD τ).loc main_arg1)) r) :
    ∀ (n : ℕ) (hn : n < cfg0.N), n < 9 → Holds m c (outsAt0 m c n hn) (5000 * (n + 1)) := by
  intro n
  induction n with
  | zero =>
    intro hn _
    have e := outs_A m c ⟨0, hn⟩ (by show 0 % 10 = 0; rfl) (by show ¬0 % 10 = 9; decide)
    rw [e]
    refine point_holds m c hb ⟨0, hn⟩ _ ?_
    exact init_carried _ _ _ _ _ _ h0 _ _ _ _ (block_b m c ⟨0, hn⟩) (block_w1 m c ⟨0, hn⟩) (block_b1 m c ⟨0, hn⟩) (block_w2 m c ⟨0, hn⟩)
  | succ n ih =>
    intro hn h9
    have e := outs_B m c ⟨n + 1, hn⟩ (by show ¬(n + 1) % 10 = 0; omega) (by show ¬(n + 1) % 10 = 9; omega)
    rw [e]
    exact point_holds m c hb ⟨n + 1, hn⟩ _ (ih (Nat.lt_of_succ_lt hn) (by omega))

/-- WHAT THE LAUNCH LEAVES: the division of carried values that hold all the rows. -/
theorem result_holds (hb : Monotone (key (m ((c.tc : Thread nD τ).loc main_arg1)))) (h0 : ∀ r, 0 ≤ key (m ((c.tc : Thread nD τ).loc main_arg1)) r)
    (n : ℕ) (hn : n < cfg0.N) (h9 : n = 9) :
    ∃ Q : State Ideal, Holds m c Q 50000 ∧ (outsAt0 m c n hn).1 = k0_pay4 Q.2.2.1 Q.1 Q.2.1 := by
  have hP : Holds m c (outsAt0 m c (n - 1) (Nat.lt_of_le_of_lt (Nat.sub_le _ _) hn)) (5000 * n) := by
    have h := outs_hold m c hb h0 (n - 1) (Nat.lt_of_le_of_lt (Nat.sub_le _ _) hn) (by omega)
    rwa [Nat.sub_add_cancel (by omega)] at h
  have hQ := point_holds m c hb ⟨n, hn⟩ _ hP
  have e : 5000 * ((⟨n, hn⟩ : Fin cfg0.N).val + 1) = 50000 := by show 5000 * (n + 1) = 50000; omega
  rw [e] at hQ
  exact ⟨_, hQ, outs_C m c ⟨n, hn⟩ (by show ¬n % 10 = 0; omega) (by show n % 10 = 9; omega) _ _ rfl rfl⟩

end

end Cert.Pool

end
-- ==== Proof.Equation.lean ====
/-
  The equation: what the launch leaves is what the reference computes.
-/
module

public import proofs.«01_k».proof.Proof.Fold
public import proofs.«01_k».proof.Proof.Softmax

@[expose] public section

set_option maxRecDepth 16384

noncomputable section

namespace Cert.Pool

open Cert.KernelIdeal Cert.KernelIdeal.Gen Idealize.ShloMosaic Idealize.ShloMosaic.TcCoe Idealize.SL.Sem

/-- The small number is a positive real. -/
theorem eps_pos : ∃ ε : ℝ, 0 < ε ∧ eps = (ε : EReal) := by
  refine ⟨11258999 / 2 ^ 50, by positivity, ?_⟩
  unfold eps
  simp [Ideal.ofBits, Ideal.ieee, -EReal.coe_mul]
  norm_num

variable (m : (ℓ : Loc nD τ sig) → Buf (Elt Ideal) ℓ) (c : Dev nD)

/-- WHERE THE SEGMENT NUMBERS NEVER GO DOWN and none is negative, the launch's result array is the reference's. -/
theorem result_eq (hb : Monotone (key (m ((c.tc : Thread nD τ).loc main_arg1)))) (h0 : ∀ r, 0 ≤ key (m ((c.tc : Thread nD τ).loc main_arg1)) r) :
    Cert.KernelIdeal.Value.G6 m c
      = pooled (m ((c.tc : Thread nD τ).loc main_arg0)) (m ((c.tc : Thread nD τ).loc main_arg1))
          (weights (m ((c.tc : Thread nD τ).loc main_arg1)) (shifted (m ((c.tc : Thread nD τ).loc main_arg1))
            (scores (m ((c.tc : Thread nD τ).loc main_arg0)) (m ((c.tc : Thread nD τ).loc main_arg2)) (m ((c.tc : Thread nD τ).loc main_arg3))
              (m ((c.tc : Thread nD τ).loc main_arg4)) (m ((c.tc : Thread nD τ).loc main_arg5))))) := by
  have hn : 9 < cfg0.N := lt_of_lt_of_eq (by decide) N_0.symm
  obtain ⟨Q, hQ, e⟩ := result_holds m c hb h0 9 hn rfl
  rw [Cert.KernelIdeal.Value.G6_last, ← Cert.KernelIdeal.Value.outsAt0_sweep m c 9 hn, e]
  obtain ⟨ε, hε, heps⟩ := eps_pos
  funext i
  obtain ⟨g, y, rfl⟩ : ∃ (g : Fin 64) (y : Fin 512), i = ix2 g y := ⟨i 0, i 1, eq_ix2 i⟩
  rw [reference_at]
  refine (divided _ _ _ _ _ _ Q hQ g y).trans ?_
  rw [heps]
  exact pool_eq _ _ _ hε

end Cert.Pool

end
-- ==== Proof.Sorted.lean ====
/-
  What the precondition says: the segment numbers never go down, and the first is not negative.
-/
module

public import proofs.«01_k».proof.Pre_batch_sorted
public import proofs.«01_k».proof.Proof.Segments

@[expose] public section

set_option maxRecDepth 16384

noncomputable section

namespace Cert.Pool

open Idealize.ShloMosaic

/-- The shapes the precondition's operations need fit. -/
theorem sorted_facts : Cert.Pre_batch_sorted.Facts := ⟨by decide, by decide, by decide⟩

attribute [local instance] sorted_facts

section
variable (x : FVec Ideal Cert.Pre_batch_sorted.S50000x512 .f32) (b : IVec Cert.Pre_batch_sorted.S50000 32)
  (w1 : FVec Ideal Cert.Pre_batch_sorted.S512x256 .f32) (b1 : FVec Ideal Cert.Pre_batch_sorted.S256 .f32)
  (w2 : FVec Ideal Cert.Pre_batch_sorted.S256x1 .f32) (b2 : FVec Ideal Cert.Pre_batch_sorted.S1 .f32)

/-- The precondition at a position: the number before it, zero before the first, is at most its own. -/
theorem sorted_at (h : Cert.Pre_batch_sorted.fn (F := Ideal) x b w1 b1 w2 b2 = fun _ => 1#1) (r : Fin 50000) :
    (if h : r.val < 1 then 0#32 else b (ix1 ⟨r.val - 1, by omega⟩) : BitVec 32).toInt ≤ (b (ix1 r)).toInt := by
  have e := congrFun h (ix1 r)
  have f : Cert.Pre_batch_sorted.fn (F := Ideal) x b w1 b1 w2 b2 (ix1 r)
      = IntOp.cmpi .sle (if h : r.val < 1 then 0#32 else b (ix1 ⟨r.val - 1, by omega⟩) : BitVec 32) (b (ix1 r)) := by
    pointwise [Cert.Pre_batch_sorted.fn]
  have hof : ∀ p : Bool, BitVec.ofBool p = 1#1 → p = true := by decide
  rw [f] at e
  exact BitVec.sle_iff_toInt_le.1 (hof _ e)

/-- The numbers never go down. -/
theorem sorted_monotone (h : Cert.Pre_batch_sorted.fn (F := Ideal) x b w1 b1 w2 b2 = fun _ => 1#1) : Monotone (key b) := by
  have hs : ∀ (n : ℕ) (hn : n + 1 < 50000), key b ⟨n, by omega⟩ ≤ key b ⟨n + 1, hn⟩ := fun n hn => by
    have e := sorted_at x b w1 b1 w2 b2 h ⟨n + 1, hn⟩
    rw [dif_neg (show ¬(n + 1 < 1) by omega)] at e
    exact e
  have hd : ∀ (d n : ℕ) (hn : n + d < 50000), key b ⟨n, by omega⟩ ≤ key b ⟨n + d, hn⟩ := by
    intro d
    induction d with
    | zero => intro n hn; exact le_rfl
    | succ d ih => intro n hn; exact (ih n (by omega)).trans (hs (n + d) hn)
  rintro ⟨i, hi⟩ ⟨j, hj⟩ hij
  have hij' : i ≤ j := hij
  obtain ⟨d, rfl⟩ := Nat.exists_eq_add_of_le hij'
  exact hd d i hj

/-- None of them is negative. -/
theorem sorted_nonneg (h : Cert.Pre_batch_sorted.fn (F := Ideal) x b w1 b1 w2 b2 = fun _ => 1#1) (r : Fin 50000) : 0 ≤ key b r := by
  have e := sorted_at x b w1 b1 w2 b2 h ⟨0, by omega⟩
  rw [dif_pos (show (0 : ℕ) < 1 by omega)] at e
  have z : (0#32 : BitVec 32).toInt = 0 := by decide
  rw [z] at e
  exact le_trans e (sorted_monotone x b w1 b1 w2 b2 h (Fin.mk_le_of_le_val (Nat.zero_le _)))

end

end Cert.Pool

end
-- ==== Proof.lean ====
/-
  The claim: every frame, the idealized kernel being the kernel, and its result array being the reference's where the segment numbers
  never go down from zero.
-/
module

public import proofs.«01_k».proof.Defs
public import proofs.«01_k».proof.Proof.Gen.Kernel.Frame
public import proofs.«01_k».proof.Proof.Equation
public import proofs.«01_k».proof.Proof.Sorted
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its arguments as they were and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

attribute [local instance] Cert.Pool.sorted_facts

/-- From memories with the same arguments, the segment numbers never going down from zero, the kernel and the reference end with
    the same result array. -/
theorem algebraic_KernelIdeal_ReferenceIdeal : algebraic_KernelIdeal_ReferenceIdeal_pre_batch_sorted := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.Pool.reference_eq]
  simp only [hagree c]
  exact (Cert.Pool.result_eq m c (Cert.Pool.sorted_monotone _ _ _ _ _ _ (hpre c)) (Cert.Pool.sorted_nonneg _ _ _ _ _ _ (hpre c))).symm

/-- Every claim of the certificate. -/
theorem claim : Cert.Claim := ⟨Cert.Kernel.Gen.facts, Cert.KernelIdeal.Gen.facts, Cert.ReferenceIdeal.Gen.facts, Cert.Pool.sorted_facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal),
  algebraic_KernelIdeal_ReferenceIdeal⟩

end Cert.Proof

end
